-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Hybrid (m : (ℓ : Loc Cert.Hybrid.nD Cert.Hybrid.τ Cert.Hybrid.sig) → Buf (Elt Bits) ℓ) : Prop :=
  True

def Pre_HybridIdeal (m : (ℓ : Loc Cert.HybridIdeal.nD Cert.HybridIdeal.τ Cert.HybridIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Hybrid [hHybrid : Cert.Hybrid.Facts] : Prop :=
  ∀ (m : (ℓ : Loc Cert.Hybrid.nD Cert.Hybrid.τ Cert.Hybrid.sig) → Buf (Elt Bits) ℓ) (g : Dev Cert.Hybrid.nD → PrngReg), Pre_Hybrid m →
    θ_run (Cert.Hybrid.defs (F := Bits)) (Cert.Hybrid.threads (F := Bits)) ⟨m, fun _ => 0, g⟩ (fun r => (∀ c : Dev Cert.Hybrid.nD,
      r.2.mem ((c.tc : Thread Cert.Hybrid.nD Cert.Hybrid.τ).loc Cert.Hybrid.main_arg0) = m ((c.tc : Thread Cert.Hybrid.nD Cert.Hybrid.τ).loc Cert.Hybrid.main_arg0)
      ∧ r.2.mem ((c.tc : Thread Cert.Hybrid.nD Cert.Hybrid.τ).loc Cert.Hybrid.main_arg1) = m ((c.tc : Thread Cert.Hybrid.nD Cert.Hybrid.τ).loc Cert.Hybrid.main_arg1)
      ∧ r.2.mem ((c.tc : Thread Cert.Hybrid.nD Cert.Hybrid.τ).loc Cert.Hybrid.main_arg2) = m ((c.tc : Thread Cert.Hybrid.nD Cert.Hybrid.τ).loc Cert.Hybrid.main_arg2)
      ∧ r.2.mem ((c.tc : Thread Cert.Hybrid.nD Cert.Hybrid.τ).loc Cert.Hybrid.main_arg3) = m ((c.tc : Thread Cert.Hybrid.nD Cert.Hybrid.τ).loc Cert.Hybrid.main_arg3))
      ∧ r.2.sem = fun _ => 0)

def quiescent_HybridIdeal [hHybridIdeal : Cert.HybridIdeal.Facts] : Prop :=
  ∀ (m : (ℓ : Loc Cert.HybridIdeal.nD Cert.HybridIdeal.τ Cert.HybridIdeal.sig) → Buf (Elt Ideal) ℓ) (g : Dev Cert.HybridIdeal.nD → PrngReg), Pre_HybridIdeal m →
    θ_run (Cert.HybridIdeal.defs (F := Ideal)) (Cert.HybridIdeal.threads (F := Ideal)) ⟨m, fun _ => 0, g⟩ (fun r => (∀ c : Dev Cert.HybridIdeal.nD,
      r.2.mem ((c.tc : Thread Cert.HybridIdeal.nD Cert.HybridIdeal.τ).loc Cert.HybridIdeal.main_arg0) = m ((c.tc : Thread Cert.HybridIdeal.nD Cert.HybridIdeal.τ).loc Cert.HybridIdeal.main_arg0)
      ∧ r.2.mem ((c.tc : Thread Cert.HybridIdeal.nD Cert.HybridIdeal.τ).loc Cert.HybridIdeal.main_arg1) = m ((c.tc : Thread Cert.HybridIdeal.nD Cert.HybridIdeal.τ).loc Cert.HybridIdeal.main_arg1)
      ∧ r.2.mem ((c.tc : Thread Cert.HybridIdeal.nD Cert.HybridIdeal.τ).loc Cert.HybridIdeal.main_arg2) = m ((c.tc : Thread Cert.HybridIdeal.nD Cert.HybridIdeal.τ).loc Cert.HybridIdeal.main_arg2)
      ∧ r.2.mem ((c.tc : Thread Cert.HybridIdeal.nD Cert.HybridIdeal.τ).loc Cert.HybridIdeal.main_arg3) = m ((c.tc : Thread Cert.HybridIdeal.nD Cert.HybridIdeal.τ).loc Cert.HybridIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Hybrid_HybridIdeal : Prop :=
  True

def algebraic_HybridIdeal_ReferenceIdeal [hHybridIdeal : Cert.HybridIdeal.Facts] [hReferenceIdeal : Cert.ReferenceIdeal.Facts] : Prop :=
  ∀ (m : (ℓ : Loc Cert.HybridIdeal.nD Cert.HybridIdeal.τ Cert.HybridIdeal.sig) → Buf (Elt Ideal) ℓ) (g : Dev Cert.HybridIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_HybridIdeal m →
    (∀ c : Dev Cert.HybridIdeal.nD,
      m' ((c.tc : Thread Cert.ReferenceIdeal.nD Cert.ReferenceIdeal.τ).loc Cert.ReferenceIdeal.main_arg0) = m ((c.tc : Thread Cert.HybridIdeal.nD Cert.HybridIdeal.τ).loc Cert.HybridIdeal.main_arg0)
      ∧ m' ((c.tc : Thread Cert.ReferenceIdeal.nD Cert.ReferenceIdeal.τ).loc Cert.ReferenceIdeal.main_arg1) = m ((c.tc : Thread Cert.HybridIdeal.nD Cert.HybridIdeal.τ).loc Cert.HybridIdeal.main_arg1)
      ∧ m' ((c.tc : Thread Cert.ReferenceIdeal.nD Cert.ReferenceIdeal.τ).loc Cert.ReferenceIdeal.main_arg2) = m ((c.tc : Thread Cert.HybridIdeal.nD Cert.HybridIdeal.τ).loc Cert.HybridIdeal.main_arg2)
      ∧ m' ((c.tc : Thread Cert.ReferenceIdeal.nD Cert.ReferenceIdeal.τ).loc Cert.ReferenceIdeal.main_arg3) = m ((c.tc : Thread Cert.HybridIdeal.nD Cert.HybridIdeal.τ).loc Cert.HybridIdeal.main_arg3)) →
    ∃ (v0 : (c : Dev Cert.HybridIdeal.nD) → Buf (Elt Ideal) ((c.tc : Thread Cert.HybridIdeal.nD Cert.HybridIdeal.τ).loc Cert.HybridIdeal.main_v5)),
      θ_run (Cert.HybridIdeal.defs (F := Ideal)) (Cert.HybridIdeal.threads (F := Ideal)) ⟨m, fun _ => 0, g⟩ (fun r => ∀ c : Dev Cert.HybridIdeal.nD,
          r.2.mem ((c.tc : Thread Cert.HybridIdeal.nD Cert.HybridIdeal.τ).loc Cert.HybridIdeal.main_v5) = v0 c
          ∧ r.2.mem ((c.tc : Thread Cert.HybridIdeal.nD Cert.HybridIdeal.τ).loc Cert.HybridIdeal.main_arg0) = m ((c.tc : Thread Cert.HybridIdeal.nD Cert.HybridIdeal.τ).loc Cert.HybridIdeal.main_arg0)
          ∧ r.2.mem ((c.tc : Thread Cert.HybridIdeal.nD Cert.HybridIdeal.τ).loc Cert.HybridIdeal.main_arg1) = m ((c.tc : Thread Cert.HybridIdeal.nD Cert.HybridIdeal.τ).loc Cert.HybridIdeal.main_arg1)
          ∧ r.2.mem ((c.tc : Thread Cert.HybridIdeal.nD Cert.HybridIdeal.τ).loc Cert.HybridIdeal.main_arg2) = m ((c.tc : Thread Cert.HybridIdeal.nD Cert.HybridIdeal.τ).loc Cert.HybridIdeal.main_arg2)
          ∧ r.2.mem ((c.tc : Thread Cert.HybridIdeal.nD Cert.HybridIdeal.τ).loc Cert.HybridIdeal.main_arg3) = m ((c.tc : Thread Cert.HybridIdeal.nD Cert.HybridIdeal.τ).loc Cert.HybridIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hHybrid : Cert.Hybrid.Facts) (hHybridIdeal : Cert.HybridIdeal.Facts),
    quiescent_Kernel (hKernel := hKernel)
    ∧ quiescent_KernelIdeal (hKernelIdeal := hKernelIdeal)
    ∧ quiescent_ReferenceIdeal (hReferenceIdeal := hReferenceIdeal)
    ∧ quiescent_Hybrid (hHybrid := hHybrid)
    ∧ quiescent_HybridIdeal (hHybridIdeal := hHybridIdeal)
    ∧ preserves_Kernel_KernelIdeal
    ∧ algebraic_KernelIdeal_ReferenceIdeal (hKernelIdeal := hKernelIdeal) (hReferenceIdeal := hReferenceIdeal)
    ∧ preserves_Hybrid_HybridIdeal
    ∧ algebraic_HybridIdeal_ReferenceIdeal (hHybridIdeal := hHybridIdeal) (hReferenceIdeal := hReferenceIdeal)
-- ==== Kernel.lean ====
abbrev S128x32768 : Shape := ⟨2, ![128, 32768]⟩
abbrev S2 : Shape := ⟨1, ![2]⟩
abbrev S128x4096 : Shape := ⟨2, ![128, 4096]⟩
abbrev S1 : Shape := ⟨1, ![1]⟩

abbrev nBuf : Space → Nat
  | .hbm => 5
  | .vmem => 8
  | .smem => 1
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S128x32768, .f32⟩
  | .hbm, ⟨3, _⟩ => ⟨S2, .f32⟩
  | .hbm, ⟨4, _⟩ => ⟨S128x32768, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .smem, ⟨0, _⟩ => ⟨S2, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x32768 : Shape := ⟨2, ![128, 32768]⟩
abbrev S2 : Shape := ⟨1, ![2]⟩
abbrev S_ : Shape := ⟨0, ![]⟩
abbrev S1 : Shape := ⟨1, ![1]⟩

abbrev nBuf : Space → Nat
  | .hbm => 33
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S128x32768, .f32⟩
  | .hbm, ⟨3, _⟩ => ⟨S2, .f32⟩
  | .hbm, ⟨4, _⟩ => ⟨S_, .f32⟩
  | .hbm, ⟨5, _⟩ => ⟨S_, .f32⟩
  | .hbm, ⟨6, _⟩ => ⟨S2, .f32⟩
  | .hbm, ⟨7, _⟩ => ⟨S2, .f32⟩
  | .hbm, ⟨8, _⟩ => ⟨S1, .f32⟩
  | .hbm, ⟨9, _⟩ => ⟨S_, .f32⟩
  | .hbm, ⟨10, _⟩ => ⟨S128x32768, .f32⟩
  | .hbm, ⟨11, _⟩ => ⟨S128x32768, .i1⟩
  | .hbm, ⟨12, _⟩ => ⟨S128x32768, .f32⟩
  | .hbm, ⟨13, _⟩ => ⟨S128x32768, .f32⟩
  | .hbm, ⟨14, _⟩ => ⟨S128x32768, .f32⟩
  | .hbm, ⟨15, _⟩ => ⟨S_, .f32⟩
  | .hbm, ⟨16, _⟩ => ⟨S128x32768, .f32⟩
  | .hbm, ⟨17, _⟩ => ⟨S128x32768, .f32⟩
  | .hbm, ⟨18, _⟩ => ⟨S_, .f32⟩
  | .hbm, ⟨19, _⟩ => ⟨S128x32768, .f32⟩
  | .hbm, ⟨20, _⟩ => ⟨S128x32768, .f32⟩
  | .hbm, ⟨21, _⟩ => ⟨S_, .f32⟩
  | .hbm, ⟨22, _⟩ => ⟨S128x32768, .f32⟩
  | .hbm, ⟨23, _⟩ => ⟨S128x32768, .f32⟩
  | .hbm, ⟨24, _⟩ => ⟨S128x32768, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S128x32768, .f32⟩
  | .hbm, ⟨29, _⟩ => ⟨S128x32768, .f32⟩
  | .hbm, ⟨30, _⟩ => ⟨S_, .f32⟩
  | .hbm, ⟨31, _⟩ => ⟨S128x32768, .f32⟩
  | .hbm, ⟨32, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Hybrid.lean ====
abbrev S128x32768 : Shape := ⟨2, ![128, 32768]⟩
abbrev S2 : Shape := ⟨1, ![2]⟩
abbrev S1x2 : Shape := ⟨2, ![1, 2]⟩
abbrev S8x2 : Shape := ⟨2, ![8, 2]⟩
abbrev S16 : Shape := ⟨1, ![16]⟩
abbrev S48x32768 : Shape := ⟨2, ![48, 32768]⟩
abbrev S8192 : Shape := ⟨1, ![8192]⟩
abbrev S_ : Shape := ⟨0, ![]⟩
abbrev S1x8192 : Shape := ⟨2, ![1, 8192]⟩
abbrev S80x4096 : Shape := ⟨2, ![80, 4096]⟩
abbrev S1 : Shape := ⟨1, ![1]⟩

abbrev nBuf : Table → Nat
  | .hbm => 12
  | .local .tc .vmem => 8
  | .local .tc .smem => 1
  | .local .scVector .vmem => 9
  | _ => 0

abbrev bufTy : (tb : Table) → Fin (nBuf tb) → BufTy
  | .hbm, ⟨0, _⟩ => ⟨S128x32768, .f32⟩
  | .hbm, ⟨1, _⟩ => ⟨S128x32768, .f32⟩
  | .hbm, ⟨2, _⟩ => ⟨S128x32768, .f32⟩
  | .hbm, ⟨3, _⟩ => ⟨S2, .f32⟩
  | .hbm, ⟨4, _⟩ => ⟨S1x2, .f32⟩
  | .hbm, ⟨5, _⟩ => ⟨S8x2, .f32⟩
  | .hbm, ⟨6, _⟩ => ⟨S16, .f32⟩
  | .hbm, ⟨7, _⟩ => ⟨S48x32768, .f32⟩
  | .hbm, ⟨8, _⟩ => ⟨S128x32768, .f32⟩
  | .hbm, ⟨9, _⟩ => ⟨S_, .i32⟩
  | .hbm, ⟨10, _⟩ => ⟨S_, .i32⟩
  | .hbm, ⟨11, _⟩ => ⟨S128x32768, .f32⟩
  | .local .tc .vmem, ⟨0, _⟩ => ⟨S80x4096, .f32⟩
  | .local .tc .vmem, ⟨1, _⟩ => ⟨S80x4096, .f32⟩
  | .local .tc .vmem, ⟨2, _⟩ => ⟨S80x4096, .f32⟩
  | .local .tc .vmem, ⟨3, _⟩ => ⟨S80x4096, .f32⟩
  | .local .tc .vmem, ⟨4, _⟩ => ⟨S80x4096, .f32⟩
  | .local .tc .vmem, ⟨5, _⟩ => ⟨S80x4096, .f32⟩
  | .local .tc .vmem, ⟨6, _⟩ => ⟨S80x4096, .f32⟩
  | .local .tc .vmem, ⟨7, _⟩ => ⟨S80x4096, .f32⟩
  | .local .tc .smem, ⟨0, _⟩ => ⟨S2, .f32⟩
  | .local .scVector .vmem, ⟨0, _⟩ => ⟨S16, .f32⟩
  | .local .scVector .vmem, ⟨1, _⟩ => ⟨S8192, .f32⟩
  | .local .scVector .vmem, ⟨2, _⟩ => ⟨S8192, .f32⟩
  | .local .scVector .vmem, ⟨3, _⟩ => ⟨S8192, .f32⟩
  | .local .scVector .vmem, ⟨4, _⟩ => ⟨S8192, .f32⟩
  | .local .scVector .vmem, ⟨5, _⟩ => ⟨S8192, .f32⟩
  | .local .scVector .vmem, ⟨6, _⟩ => ⟨S8192, .f32⟩
  | .local .scVector .vmem, ⟨7, _⟩ => ⟨S8192, .f32⟩
  | .local .scVector .vmem, ⟨8, _⟩ => ⟨S8192, .f32⟩
  | _, _ => ⟨S128x32768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_v5 : Ref sig .tc := ⟨.hbm, 11, rfl⟩
abbrev main_v2_scv : Ref sig .scVector := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v3_scv : Ref sig .scVector := ⟨.hbm, 7, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v6 : IVec S16 32) : Prop :=
  (∀ a x, ((![v6] : Fin 1 → IVec S16 32) a x).toNat < S16.size a)
theorem k0_idx1_inb : ∀ (v6 : IVec S16 32) (k0_hw1 : k0_chk1 v6), ∀ a x, ((![v6] : Fin 1 → IVec S16 32) a x).toNat < S16.size a := fun v6 k0_hw1 => k0_hw1
def k0_off1 (i : grid0.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v29 : BitVec 32 := Scalar.addi v2 c0_i32_5
  let c0_i32_6 : BitVec 32 := 0#32
  let v31 : BitVec 1 := Scalar.cmpi .sgt v29 c0_i32_6
  let v32 : BitVec 32 := Scalar.extui v31
  let c0_i32_7 : BitVec 32 := 0#32
  let v33 : BitVec 1 := Scalar.cmpi .slt v29 c0_i32_7
  let v34 : BitVec 32 := Scalar.extui v33
  let v35 : BitVec 32 := Scalar.subi v32 v34
  let c4_i32 : BitVec 32 := 4#32
  let c0_i32_8 : BitVec 32 := 0#32
  let v36 : BitVec 1 := Scalar.cmpi .sgt c4_i32 c0_i32_8
  let v37 : BitVec 32 := Scalar.extui v36
  let c0_i32_9 : BitVec 32 := 0#32
  let v38 : BitVec 1 := Scalar.cmpi .slt c4_i32 c0_i32_9
  let v39 : BitVec 32 := Scalar.extui v38
  let v40 : BitVec 32 := Scalar.subi v37 v39
  let v41 : BitVec 1 := Scalar.cmpi .ne v35 v40
  let v42 : BitVec 32 := Scalar.remsi v29 c4_i32
  let c0_i32_10 : BitVec 32 := 0#32
  let v43 : BitVec 1 := Scalar.cmpi .ne v42 c0_i32_10
  let v44 : BitVec 1 := Scalar.andi v41 v43
  let v30 : BitVec 32 := Scalar.divsi v29 c4_i32
  let c1_i32_11 : BitVec 32 := 1#32
  let v45 : BitVec 32 := Scalar.subi v30 c1_i32_11
  let v46 : BitVec 32 := Scalar.select v44 v45 v30
  let c80_i32 : BitVec 32 := 80#32
  let v58 : BitVec 32 := Scalar.addi v46 c80_i32
  let c4_i32_12 : BitVec 32 := 4#32
  let c0_i32_13 : BitVec 32 := 0#32
  let v47 : BitVec 1 := Scalar.cmpi .eq c4_i32_12 c0_i32_13
  let c1_i32_14 : BitVec 32 := 1#32
  let v48 : BitVec 32 := Scalar.select v47 c1_i32_14 c4_i32_12
  let v49 : BitVec 32 := Scalar.remsi v29 v48
  let c0_i32_16 : BitVec 32 := 0#32
  let v51 : BitVec 1 := Scalar.cmpi .slt v49 c0_i32_16
  let c0_i32_17 : BitVec 32 := 0#32
  let v52 : BitVec 1 := Scalar.cmpi .slt v48 c0_i32_17
  let v53 : BitVec 1 := Scalar.xori v51 v52
  let c0_i32_15 : BitVec 32 := 0#32
  let v50 : BitVec 1 := Scalar.cmpi .ne v49 c0_i32_15
  let v54 : BitVec 1 := Scalar.andi v53 v50
  let v55 : BitVec 32 := Scalar.addi v49 v48
  let v56 : BitVec 32 := Scalar.select v54 v55 v49
  let c8192_i32 : BitVec 32 := 8192#32
  let v57 : BitVec 32 := Scalar.muli v56 c8192_i32
  ![v58.toNat, v57.toNat]
@[reducible] def k0_t1_loop : Scf.Loop 32 :=
  let c0_i32_34 : BitVec 32 := 0#32
  let c512_i32 : BitVec 32 := 512#32
  let v125 : BitVec 32 := Scalar.addi c0_i32_34 c512_i32
  let c1_i32_35 : BitVec 32 := 1#32
  ⟨c0_i32_34, v125, c1_i32_35⟩
def k0_off2 (k0_t1 : Fin k0_t1_loop.trips) : Fin 1 → Nat :=
  let c0_i32_210 : BitVec 32 := 0#32
  let c0_i32_34 : BitVec 32 := 0#32
  let c1_i32_35 : BitVec 32 := 1#32
  let arg20 : BitVec 32 := Scf.iv c0_i32_34 c1_i32_35 k0_t1
  let c1_i32_209 : BitVec 32 := 1#32
  let v581 : BitVec 32 := Scalar.muli arg20 c1_i32_209
  let v582 : BitVec 32 := Scalar.addi c0_i32_210 v581
  let c16_i32 : BitVec 32 := 16#32
  let v583 : BitVec 32 := Scalar.muli v582 c16_i32
  let v584 : Index := Scalar.indexCast v583
  ![v584.toNat]
def k0_off3 (i : grid0.Coords) (c0_i32_37 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v2 : BitVec 32 := Scalar.muli v1 c6_i32
  let v126 : BitVec 32 := Scalar.addi v2 c0_i32_37
  let c0_i32_39 : BitVec 32 := 0#32
  let v128 : BitVec 1 := Scalar.cmpi .sgt v126 c0_i32_39
  let v129 : BitVec 32 := Scalar.extui v128
  let c0_i32_40 : BitVec 32 := 0#32
  let v130 : BitVec 1 := Scalar.cmpi .slt v126 c0_i32_40
  let v131 : BitVec 32 := Scalar.extui v130
  let v132 : BitVec 32 := Scalar.subi v129 v131
  let c4_i32_38 : BitVec 32 := 4#32
  let c0_i32_41 : BitVec 32 := 0#32
  let v133 : BitVec 1 := Scalar.cmpi .sgt c4_i32_38 c0_i32_41
  let v134 : BitVec 32 := Scalar.extui v133
  let c0_i32_42 : BitVec 32 := 0#32
  let v135 : BitVec 1 := Scalar.cmpi .slt c4_i32_38 c0_i32_42
  let v136 : BitVec 32 := Scalar.extui v135
  let v137 : BitVec 32 := Scalar.subi v134 v136
  let v138 : BitVec 1 := Scalar.cmpi .ne v132 v137
  let v139 : BitVec 32 := Scalar.remsi v126 c4_i32_38
  let c0_i32_43 : BitVec 32 := 0#32
  let v140 : BitVec 1 := Scalar.cmpi .ne v139 c0_i32_43
  let v141 : BitVec 1 := Scalar.andi v138 v140
  let v127 : BitVec 32 := Scalar.divsi v126 c4_i32_38
  let c1_i32_44 : BitVec 32 := 1#32
  let v142 : BitVec 32 := Scalar.subi v127 c1_i32_44
  let v143 : BitVec 32 := Scalar.select v141 v142 v127
  let c4_i32_45 : BitVec 32 := 4#32
  let c0_i32_46 : BitVec 32 := 0#32
  let v144 : BitVec 1 := Scalar.cmpi .eq c4_i32_45 c0_i32_46
  let c1_i32_47 : BitVec 32 := 1#32
  let v145 : BitVec 32 := Scalar.select v144 c1_i32_47 c4_i32_45
  let v146 : BitVec 32 := Scalar.remsi v126 v145
  let c0_i32_49 : BitVec 32 := 0#32
  let v148 : BitVec 1 := Scalar.cmpi .slt v146 c0_i32_49
  let c0_i32_50 : BitVec 32 := 0#32
  let v149 : BitVec 1 := Scalar.cmpi .slt v145 c0_i32_50
  let v150 : BitVec 1 := Scalar.xori v148 v149
  let c0_i32_48 : BitVec 32 := 0#32
  let v147 : BitVec 1 := Scalar.cmpi .ne v146 c0_i32_48
  let v151 : BitVec 1 := Scalar.andi v150 v147
  let v152 : BitVec 32 := Scalar.addi v146 v145
  let v153 : BitVec 32 := Scalar.select v151 v152 v146
  let c8192_i32_51 : BitVec 32 := 8192#32
  let v154 : BitVec 32 := Scalar.muli v153 c8192_i32_51
  ![v143.toNat, v154.toNat]
@[reducible] def k0_t2_loop : Scf.Loop 32 :=
  let c0_i32_68 : BitVec 32 := 0#32
  let c512_i32_69 : BitVec 32 := 512#32
  let v213 : BitVec 32 := Scalar.addi c0_i32_68 c512_i32_69
  let c1_i32_70 : BitVec 32 := 1#32
  ⟨c0_i32_68, v213, c1_i32_70⟩
def k0_off4 (k0_t2 : Fin k0_t2_loop.trips) : Fin 1 → Nat :=
  let c0_i32_210 : BitVec 32 := 0#32
  let c0_i32_68 : BitVec 32 := 0#32
  let c1_i32_70 : BitVec 32 := 1#32
  let arg20 : BitVec 32 := Scf.iv c0_i32_68 c1_i32_70 k0_t2
  let c1_i32_209 : BitVec 32 := 1#32
  let v581 : BitVec 32 := Scalar.muli arg20 c1_i32_209
  let v582 : BitVec 32 := Scalar.addi c0_i32_210 v581
  let c16_i32 : BitVec 32 := 16#32
  let v583 : BitVec 32 := Scalar.muli v582 c16_i32
  let v584 : Index := Scalar.indexCast v583
  ![v584.toNat]
@[reducible] def k0_t3_loop : Scf.Loop 32 :=
  let c0_i32_102 : BitVec 32 := 0#32
  let c512_i32_103 : BitVec 32 := 512#32
  let v305 : BitVec 32 := Scalar.addi c0_i32_102 c512_i32_103
  let c1_i32_104 : BitVec 32 := 1#32
  ⟨c0_i32_102, v305, c1_i32_104⟩
def k0_off5 (k0_t3 : Fin k0_t3_loop.trips) : Fin 1 → Nat :=
  let c0_i32_210 : BitVec 32 := 0#32
  let c0_i32_102 : BitVec 32 := 0#32
  let c1_i32_104 : BitVec 32 := 1#32
  let arg20 : BitVec 32 := Scf.iv c0_i32_102 c1_i32_104 k0_t3
  let c1_i32_209 : BitVec 32 := 1#32
  let v581 : BitVec 32 := Scalar.muli arg20 c1_i32_209
  let v582 : BitVec 32 := Scalar.addi c0_i32_210 v581
  let c16_i32 : BitVec 32 := 16#32
  let v583 : BitVec 32 := Scalar.muli v582 c16_i32
  let v584 : Index := Scalar.indexCast v583
  ![v584.toNat]
@[reducible] def k0_t4_loop : Scf.Loop 32 :=
  let c0_i32_137 : BitVec 32 := 0#32
  let c512_i32_138 : BitVec 32 := 512#32
  let v397 : BitVec 32 := Scalar.addi c0_i32_137 c512_i32_138
  let c1_i32_139 : BitVec 32 := 1#32
  ⟨c0_i32_137, v397, c1_i32_139⟩
def k0_off6 (k0_t4 : Fin k0_t4_loop.trips) : Fin 1 → Nat :=
  let c0_i32_210 : BitVec 32 := 0#32
  let c0_i32_137 : BitVec 32 := 0#32
  let c1_i32_139 : BitVec 32 := 1#32
  let arg20 : BitVec 32 := Scf.iv c0_i32_137 c1_i32_139 k0_t4
  let c1_i32_209 : BitVec 32 := 1#32
  let v581 : BitVec 32 := Scalar.muli arg20 c1_i32_209
  let v582 : BitVec 32 := Scalar.addi c0_i32_210 v581
  let c16_i32 : BitVec 32 := 16#32
  let v583 : BitVec 32 := Scalar.muli v582 c16_i32
  let v584 : Index := Scalar.indexCast v583
  ![v584.toNat]
@[reducible] def k0_t5_loop : Scf.Loop 32 :=
  let c0_i32_171 : BitVec 32 := 0#32
  let c512_i32_172 : BitVec 32 := 512#32
  let v489 : BitVec 32 := Scalar.addi c0_i32_171 c512_i32_172
  let c1_i32_173 : BitVec 32 := 1#32
  ⟨c0_i32_171, v489, c1_i32_173⟩
def k0_off7 (k0_t5 : Fin k0_t5_loop.trips) : Fin 1 → Nat :=
  let c0_i32_210 : BitVec 32 := 0#32
  let c0_i32_171 : BitVec 32 := 0#32
  let c1_i32_173 : BitVec 32 := 1#32
  let arg20 : BitVec 32 := Scf.iv c0_i32_171 c1_i32_173 k0_t5
  let c1_i32_209 : BitVec 32 := 1#32
  let v581 : BitVec 32 := Scalar.muli arg20 c1_i32_209
  let v582 : BitVec 32 := Scalar.addi c0_i32_210 v581
  let c16_i32 : BitVec 32 := 16#32
  let v583 : BitVec 32 := Scalar.muli v582 c16_i32
  let v584 : Index := Scalar.indexCast v583
  ![v584.toNat]
@[reducible] def k0_t6_loop : Scf.Loop 32 :=
  let c0_i32_190 : BitVec 32 := 0#32
  let c512_i32_191 : BitVec 32 := 512#32
  let v539 : BitVec 32 := Scalar.addi c0_i32_190 c512_i32_191
  let c1_i32_192 : BitVec 32 := 1#32
  ⟨c0_i32_190, v539, c1_i32_192⟩
def k0_off8 (k0_t6 : Fin k0_t6_loop.trips) : Fin 1 → Nat :=
  let c0_i32_210 : BitVec 32 := 0#32
  let c0_i32_190 : BitVec 32 := 0#32
  let c1_i32_192 : BitVec 32 := 1#32
  let arg20 : BitVec 32 := Scf.iv c0_i32_190 c1_i32_192 k0_t6
  let c1_i32_209 : BitVec 32 := 1#32
  let v581 : BitVec 32 := Scalar.muli arg20 c1_i32_209
  let v582 : BitVec 32 := Scalar.addi c0_i32_210 v581
  let c16_i32 : BitVec 32 := 16#32
  let v583 : BitVec 32 := Scalar.muli v582 c16_i32
  let v584 : Index := Scalar.indexCast v583
  ![v584.toNat]
abbrev grid1 : Pipeline.Grid := ⟨1, ![8], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S80x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S80x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S80x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S80x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.K.Mix.lean ====
/- The sampler's formula at one place, over the extended reals. `mix` takes the two weights of the prior and the three
   draws at a place to the sample there. The programs spell the same formula with different operations; the lemmas here
   say that the spellings agree. -/
module

public import Idealize.ShloMosaic.PureOps.Ideal
public import Idealize.ShloMosaic.Lib.ValueIdx

@[expose] public section

noncomputable section

namespace Cert.Mix

open Idealize.ShloMosaic

/-- The words of the formula's constants: 0, 1, the mean 0.5, the deviation 0.2, the upper bound 10. -/
abbrev c0 : EReal := Ideal.ofBits .f32 0x00000000#32
abbrev c1 : EReal := Ideal.ofBits .f32 0x3F800000#32
abbrev cMean : EReal := Ideal.ofBits .f32 0x3F000000#32
abbrev cStd : EReal := Ideal.ofBits .f32 0x3E4CCCCD#32
abbrev cTop : EReal := Ideal.ofBits .f32 0x41200000#32

/-- The exponential draw by its inverse distribution function, at rate 1. -/
def expo (e : EReal) : EReal := Ideal.div (-(Ideal.log1p (-e))) c1

/-- The normal draw from a standard one. -/
def gauss (g : EReal) : EReal := cMean + cStd * g

/-- The first component's probability. -/
def prob0 (p0 p1 : EReal) : EReal := Ideal.div p0 (p0 + p1)

/-- The sample: the normal draw where `u` is at least the first component's probability, else the exponential draw,
    clipped to the interval from 0 to the upper bound. -/
def mix (p0 p1 u e g : EReal) : EReal :=
  min cTop (max c0 (if Ideal.cmp .oge u (prob0 p0 p1) = 1#1 then gauss g else expo e))

theorem c0_eq : c0 = 0 := by simp [c0, Ideal.ofBits, Ideal.ieee]

theorem c1_eq : c1 = 1 := by
  simp [c1, Ideal.ofBits, Ideal.ieee, -EReal.coe_mul]; norm_num

/-- The negation spelt as a difference from the zero word. -/
theorem c0_sub (x : EReal) : c0 - x = -x := by rw [c0_eq, zero_sub]

/-- The logarithm of `1 - e` is `log1p` of `-e`. -/
theorem log_one_sub (e : EReal) : Ideal.log (c1 - e) = Ideal.log1p (-e) := by
  unfold Ideal.log1p; rw [c1_eq, sub_eq_add_neg]

/-- The shapes of the prior and of the three arrays. -/
abbrev SP : Shape := ⟨1, ![2]⟩
abbrev SA : Shape := ⟨2, ![128, 32768]⟩

/-- Word `k` of the prior. -/
def word (k : Fin 2) : SP.Idx := fun a => match a with | ⟨0, _⟩ => k

/-- The result array as one function of the prior and the three arrays. -/
def G (s : Vec Ideal SP .f32) (u e g : Vec Ideal SA .f32) : Vec Ideal SA .f32 :=
  fun i => mix (s (word 0)) (s (word 1)) (u i) (e i) (g i)

end Cert.Mix

end
-- ==== Proof.K.Tc.lean ====
/- What the TensorCore kernel's result array holds, over the extended reals: at every place the sample `Cert.Mix.mix` of the
   prior's two words and the three arrays' elements there. The body computes one block from the matching blocks of the
   three arrays (`out_eq`); the blocks tile the array (`final`). -/
module

public import proofs.«01_k».proof.Proof.Gen.KernelIdeal.Value
public import proofs.«01_k».proof.Proof.K.Mix

@[expose] public section

noncomputable section

namespace Cert.Proof.Tc

open Cert.KernelIdeal Cert.KernelIdeal.Gen Cert.KernelIdeal.Value Idealize.ShloMosaic Idealize.ShloMosaic.TcCoe Idealize.SL.Sem
open Cert.Mix

theorem hz : (![0, 0] : Fin 2 → Nat) = fun _ => 0 := funext fun a => by fin_cases a <;> rfl

/-- The body's payload at a place is the sample. -/
theorem pay_apply (a b : EReal) (g e u : Vec Ideal S128x4096 .f32) (y : S128x4096.Idx) :
    k0_pay1 (F := Ideal) a a b g e u y = mix a b (u y) (e y) (g y) := by
  show min cTop (max c0 (if Ideal.cmp .oge (u y) (Ideal.div a (a + b)) = 1#1 then cMean + cStd * g y
    else Ideal.div (c0 - Ideal.log1p (c0 - e y)) c1)) = _
  rw [c0_sub, c0_sub]; rfl

/-- What the body leaves in the output's staging buffer, at a place. -/
theorem out_apply (c : Dev nD) (i : grid0.Coords) (arg1 : Memref sig .tc .smem S2 .f32) (h1 : arg1.IsWhole)
    (arg2 : Memref sig .tc .vmem S128x4096 .f32) (h2 : arg2.IsWhole) (arg3 : Memref sig .tc .vmem S128x4096 .f32) (h3 : arg3.IsWhole)
    (arg4 : Memref sig .tc .vmem S128x4096 .f32) (h4 : arg4.IsWhole) (arg5 : Memref sig .tc .vmem S128x4096 .f32) (h5 : arg5.IsWhole)
    (x0 : Vec Ideal S2 .f32) (x1 x2 x3 : Vec Ideal S128x4096 .f32) (y : S128x4096.Idx) :
    out0_A_4 c i arg1 h1 arg2 h2 arg3 h3 arg4 h4 arg5 h5 x0 x1 x2 x3 y
      = mix (x0 (word 0)) (x0 (word 1)) (x1 y) (x2 y) (x3 y) := by
  unfold out0_A_4
  rw [View.read_writes_junk_eq_canon]
  show View.canon ([⟨Rect.unit ![0, 0] S128x4096.size inb_S128x4096_S128x4096_0_0,
      k0_pay1
        (View.readAt (Elt Ideal) arg1.view (Rect.unit (s := S2) ![0] S1.size inb_S2_S1_0).toLoadRect (h1.unread x0) _)
        (View.readAt (Elt Ideal) arg1.view (Rect.unit (s := S2) ![0] S1.size inb_S2_S1_0).toLoadRect (h1.unread x0) _)
        (View.readAt (Elt Ideal) arg1.view (Rect.unit (s := S2) ![1] S1.size inb_S2_S1_1).toLoadRect (h1.unread x0) _)
        (View.readAt (Elt Ideal) arg4.view (Rect.unit ![0, 0] S128x4096.size inb_S128x4096_S128x4096_0_0).toLoadRect (h4.unread x3))
        (View.readAt (Elt Ideal) arg3.view (Rect.unit ![0, 0] S128x4096.size inb_S128x4096_S128x4096_0_0).toLoadRect (h3.unread x2))
        (View.readAt (Elt Ideal) arg2.view (Rect.unit ![0, 0] S128x4096.size inb_S128x4096_S128x4096_0_0).toLoadRect (h2.unread x1))⟩] :
      List (View.Piece (Elt Ideal) S128x4096 .f32)) y = _
  rw [View.canon_unit_zero hz]
  simp only [View.readAt_eq_ld, h1.read_unread, h2.read_unread, h3.read_unread, h4.read_unread]
  rw [View.ld_unit_zero (S := S128x4096) hz, View.ld_unit_zero (S := S128x4096) hz, View.ld_unit_zero (S := S128x4096) hz]
  rw [pay_apply]
  congr 1 <;> exact congrArg x0 (funext fun a => by match a with | ⟨0, _⟩ => rfl)

variable (m : (ℓ : Loc nD τ sig) → Buf (Elt Ideal) ℓ) (ρ : Dev nD → PrngReg)

/-- Which block each window is on at point `t`: the prior whole, the result at column block `t`. -/
theorem idx_facts : ∀ t : Fin cfg0.N, win0_0.index t (0 : Fin 1) = 0
    ∧ (win0_4.index t (0 : Fin 2) = 0 ∧ win0_4.index t (1 : Fin 2) = t.val) :=
  (by decide +kernel : ∀ t : Fin grid0.N, _)

/-- What point `t` writes back is block `t` of the whole-array function. -/
theorem flushed_eq (c : Dev nD) (t : Fin cfg0.N) :
    (dats m 0 c).flushed 4 t = ((cfg0.win 4).blk t).view.read (Elt Ideal)
      (G (V m c main_arg3) (V m c main_arg0) (V m c main_arg1) (V m c main_arg2)) := by
  obtain ⟨e0, -⟩ := idx_facts t
  rw [flushed4_A]
  funext y
  show out0_A_4 c _ _ _ _ _ _ _ _ _ _ _ (iblk m c 0 t) (iblk m c 1 t) (iblk m c 2 t) (iblk m c 3 t) y = _
  rw [out_apply]
  have w (k : Fin 2) : iblk m c 0 t (word k) = V m c main_arg3 (word k) := by
    show V m c main_arg3 (((cfg0.win 0).blk t).view.emb (word k)) = _
    congr 1; funext a; apply Fin.ext
    match a with
    | ⟨0, _⟩ => show win0_0.index t (0 : Fin 1) * 2 + 1 * k.val = k.val; omega
  have h1 : iblk m c 1 t y = V m c main_arg0 (((cfg0.win 4).blk t).view.emb y) := rfl
  have h2 : iblk m c 2 t y = V m c main_arg1 (((cfg0.win 4).blk t).view.emb y) := rfl
  have h3 : iblk m c 3 t y = V m c main_arg2 (((cfg0.win 4).blk t).view.emb y) := rfl
  rw [w, w, h1, h2, h3]
  rfl

/-- Every place of the result is in the block of the point that its column names. -/
theorem covered (i : S128x32768.Idx) :
    ∃ t : Fin cfg0.N, (cfg0.win 4).flush t = true ∧ i ∈ ((cfg0.win 4).blk t).view.set := by
  have hi0 : (i 0 : Nat) < 128 := (i 0).isLt
  have hi1 : (i 1 : Nat) < 32768 := (i 1).isLt
  have hN : cfg0.N = 8 := N_0
  let t : Fin cfg0.N := ⟨(i 1 : Nat) / 4096, by omega⟩
  refine ⟨t, flush0_4 _, ?_⟩
  obtain ⟨-, e40, e41⟩ := idx_facts t
  have ht : t.val = (i 1 : Nat) / 4096 := rfl
  show i ∈ ((View.whole main_v0).slice (win0_4.rect t)).set
  rw [View.set_slice_whole, Rect.mem_set_unit]
  intro a
  match a with
  | ⟨0, _⟩ => show win0_4.index t (0 : Fin 2) * 128 ≤ (i 0 : Nat) ∧ (i 0 : Nat) < win0_4.index t (0 : Fin 2) * 128 + 128; omega
  | ⟨1, _⟩ => show win0_4.index t (1 : Fin 2) * 4096 ≤ (i 1 : Nat) ∧ (i 1 : Nat) < win0_4.index t (1 : Fin 2) * 4096 + 4096; omega

/-- The run: the result array holds the sample at every place, and the arguments are unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg3)) (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans
      ((dats m 0 c).arrAt_eq_of_cover 4 _ (fun t _ => flushed_eq m c t) covered), (h c).2⟩) (run_blocks m ρ)

end Cert.Proof.Tc

end
-- ==== Proof.K.Ref.lean ====
/- What the reference's result array holds, over the extended reals: at every place the sample `Cert.Mix.mix` of the prior's
   two words and the three arrays' elements there. -/
module

public import proofs.«01_k».proof.Proof.Gen.ReferenceIdeal.Read
public import proofs.«01_k».proof.Proof.K.Mix

@[expose] public section

noncomputable section

namespace Cert.Proof.Ref

open Cert.ReferenceIdeal Cert.ReferenceIdeal.Gen Cert.ReferenceIdeal.Read Idealize.ShloMosaic Idealize.ShloMosaic.TcCoe Idealize.SL.Sem
open Cert.Mix

/-- The places of the prior are its two words. -/
def words : Fin 2 ≃ S2.Idx where
  toFun := word
  invFun j := (j (0 : Fin 1) : Fin 2)
  left_inv _ := rfl
  right_inv j := funext fun a => by match a with | ⟨0, _⟩ => rfl

/-- The reference's threshold is the first word's share of the prior. -/
theorem threshold (x3 : Vec Ideal S2 .f32) (k : S_.Idx) : val_main_v4 (F := Ideal) x3 k = prob0 (x3 (word 0)) (x3 (word 1)) := by
  have hs : val_main_v4 (F := Ideal) x3 k = val_main_v3 (F := Ideal) x3 (fun a => match a with | ⟨0, _⟩ => (0 : Fin 1)) := by
    unfold val_main_v4 shapeCast
    exact congrArg (val_main_v3 (F := Ideal) x3) (funext fun a => by match a with | ⟨0, _⟩ => exact Subsingleton.elim (α := Fin 1) _ _)
  rw [hs, val_main_v3_apply, val_main_v2_apply, val_main_v1_apply, val_main_v0_apply, val_main_cst_apply]
  show Ideal.div _ (c0 + ∑ j : S2.Idx, x3 j) = _
  rw [← words.sum_comp, Fin.sum_univ_two, c0_eq, zero_add]
  rfl

/-- The reference's result as one function of its arguments. -/
theorem result (x0 x1 x2 : Vec Ideal S128x32768 .f32) (x3 : Vec Ideal S2 .f32) :
    val_main_v17 (F := Ideal) x0 x1 x2 x3 = G x3 x0 x1 x2 := by
  funext i
  have ht : val_main_v5 (F := Ideal) x3 i = prob0 (x3 (word 0)) (x3 (word 1)) := by rw [val_main_v5_apply, threshold]
  unfold G mix
  rw [← ht]
  simp only [val_main_v17_apply, val_main_call1_v4_apply, val_main_call1_v3_apply, val_main_cst_4_apply, val_main_call1_v2_apply,
    val_main_call1_v1_apply, val_main_call1_v0_apply, val_main_cst_3_apply, val_main_v16_apply, val_main_v6_apply, val_main_v15_apply,
    val_main_v14_apply, val_main_cst_2_apply, val_main_v13_apply, val_main_v12_apply, val_main_cst_1_apply, val_main_v11_apply,
    val_main_v10_apply, val_main_cst_0_apply, val_main_v9_apply, val_main_v8_apply, val_main_v7_apply]
  rfl

end Cert.Proof.Ref

end
-- ==== Proof.H.Sc.lean ====
/- The SparseCore call of the two-core program, on one vector subcore: what the sixteen lanes compute, and one trip of the loops
   over a chunk. Six chunks go through one subcore, and the six loops are the same loop over two sets of scratch buffers. -/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.HybridIdeal
public import proofs.«01_k».proof.Proof.Gen.HybridIdeal.Skeleton
public import proofs.«01_k».proof.Proof.Gen.HybridIdeal.Launch

@[expose] public section

noncomputable section

namespace Cert.Proof.H

open Cert.HybridIdeal Cert.HybridIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the ghost state -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, and the rounds and counters of the transfers on each core. -/
abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The subcore that runs a task -/

abbrev cV (L : grid0.Coords) : Fin τ.nSC := (L 0).castLE hcore0
abbrev jV (L : grid0.Coords) : Fin τ.nSub := (L 1).castLE hsub0

local notation "priH" => (Memref.whole Cert.HybridIdeal.main_v2_scv : Memref Cert.HybridIdeal.sig Kind.scVector Space.hbm Cert.HybridIdeal.S16 EltTy.f32)
local notation "umixH" => (Memref.whole Cert.HybridIdeal.main_arg0_scv : Memref Cert.HybridIdeal.sig Kind.scVector Space.hbm Cert.HybridIdeal.S128x32768 EltTy.f32)
local notation "uexpH" => (Memref.whole Cert.HybridIdeal.main_arg1_scv : Memref Cert.HybridIdeal.sig Kind.scVector Space.hbm Cert.HybridIdeal.S128x32768 EltTy.f32)
local notation "epsH" => (Memref.whole Cert.HybridIdeal.main_arg2_scv : Memref Cert.HybridIdeal.sig Kind.scVector Space.hbm Cert.HybridIdeal.S128x32768 EltTy.f32)
local notation "outH" => (Memref.whole Cert.HybridIdeal.main_v3_scv : Memref Cert.HybridIdeal.sig Kind.scVector Space.hbm Cert.HybridIdeal.S48x32768 EltTy.f32)
local notation "priV" => (Memref.whole Cert.HybridIdeal.cc0_scratch0 : Memref Cert.HybridIdeal.sig Kind.scVector Space.vmem Cert.HybridIdeal.S16 EltTy.f32)
local notation "um0" => (Memref.whole Cert.HybridIdeal.cc0_scratch1 : Memref Cert.HybridIdeal.sig Kind.scVector Space.vmem Cert.HybridIdeal.S8192 EltTy.f32)
local notation "um1" => (Memref.whole Cert.HybridIdeal.cc0_scratch2 : Memref Cert.HybridIdeal.sig Kind.scVector Space.vmem Cert.HybridIdeal.S8192 EltTy.f32)
local notation "ue0" => (Memref.whole Cert.HybridIdeal.cc0_scratch3 : Memref Cert.HybridIdeal.sig Kind.scVector Space.vmem Cert.HybridIdeal.S8192 EltTy.f32)
local notation "ue1" => (Memref.whole Cert.HybridIdeal.cc0_scratch4 : Memref Cert.HybridIdeal.sig Kind.scVector Space.vmem Cert.HybridIdeal.S8192 EltTy.f32)
local notation "ep0" => (Memref.whole Cert.HybridIdeal.cc0_scratch5 : Memref Cert.HybridIdeal.sig Kind.scVector Space.vmem Cert.HybridIdeal.S8192 EltTy.f32)
local notation "ep1" => (Memref.whole Cert.HybridIdeal.cc0_scratch6 : Memref Cert.HybridIdeal.sig Kind.scVector Space.vmem Cert.HybridIdeal.S8192 EltTy.f32)
local notation "ou0" => (Memref.whole Cert.HybridIdeal.cc0_scratch7 : Memref Cert.HybridIdeal.sig Kind.scVector Space.vmem Cert.HybridIdeal.S8192 EltTy.f32)
local notation "ou1" => (Memref.whole Cert.HybridIdeal.cc0_scratch8 : Memref Cert.HybridIdeal.sig Kind.scVector Space.vmem Cert.HybridIdeal.S8192 EltTy.f32)

variable [FloatOps F]

/-! ## What a lane computes -/

/-- The sample from the threshold `t`, the exponential's uniform `e`, the normal `g` and the mixture's uniform `u`. -/
def elem (t e g u : F .f32) : F .f32 :=
  k0_pay3 (F := F) (fun _ => t) (fun _ => e) (fun _ => g) (fun _ => u) (fun | 0 => ⟨0, by decide⟩)

/-- The lane a chunk's place falls on. -/
def lane (j : S8192.Idx) : S16.Idx := fun | 0 => ⟨(j 0).val % 16, Nat.mod_lt _ (by decide)⟩

/-- A chunk of samples from the sixteen thresholds and the chunks of the three inputs. -/
def chunk (th : S16.Idx → F .f32) (fe fg fu : S8192.Idx → F .f32) : S8192.Idx → F .f32 :=
  fun j => elem (th (lane j)) (fe j) (fg j) (fu j)

/-! ## One trip -/

/-- One trip of a loop over a chunk: sixteen places read from the three inputs, the payload written over them. -/
def tripProg {c : Fin τ.nSC} {s : Fin τ.nSub} (off : Fin 1 → ℕ) (inb : ∀ a, off a + S16.size a ≤ S8192.size a)
    (pay : Vec F S16 .f32 → Vec F S16 .f32 → Vec F S16 .f32 → FVec F S16 .f32)
    (e g u o : Memref sig .scVector .vmem S8192 .f32) : Prog (TpuEff nD τ sig (Elt F) Λ₀ (.scVector c s)) Unit := do
  let x : Vec F S16 .f32 ← Prog.lift (.load e (Rect.unit (s := S8192) off S16.size inb).toLoadRect (View.loadsAt_vmem h_S16))
  let y : Vec F S16 .f32 ← Prog.lift (.load g (Rect.unit (s := S8192) off S16.size inb).toLoadRect (View.loadsAt_vmem h_S16))
  let z : Vec F S16 .f32 ← Prog.lift (.load u (Rect.unit (s := S8192) off S16.size inb).toLoadRect (View.loadsAt_vmem h_S16))
  let _w : Vec F S16 .f32 ← Prog.lift (.load o (Rect.unit (s := S8192) off S16.size inb).toLoadRect (View.loadsAt_vmem h_S16))
  Prog.lift (.store o (Rect.unit (s := S8192) off S16.size inb) (pay x y z) Finset.univ (View.stores_vmem_bits_univ h_S16 rfl) (.inl rfl))
  pure ⟨⟩

/-- The buffer the loops over the first set write: below `16 k` it holds the samples. -/
def upTo (th : S16.Idx → F .f32) (fe fg fu : S8192.Idx → F .f32) (k : ℕ) (f : S8192.Idx → F .f32) : Prop :=
  ∀ j : S8192.Idx, (j 0).val < 16 * k → f j = chunk th fe fg fu j

/-- What the trip writes is the samples one trip further. -/
theorem upTo_step (th : S16.Idx → F .f32) (fe fg fu : S8192.Idx → F .f32) (k : ℕ) (off : Fin 1 → ℕ) (inb : ∀ a, off a + S16.size a ≤ S8192.size a)
    (hoff : off = ![16 * k]) (f f' : S8192.Idx → F .f32) (pay : S16.Idx → F .f32)
    (hf : upTo th fe fg fu k f)
    (hin : ∀ x, f' ((Rect.unit (s := S8192) off S16.size inb).emb x) = pay x)
    (hout : ∀ j, j ∉ (Rect.unit (s := S8192) off S16.size inb).set → f' j = f j)
    (hpay : ∀ x, pay x = chunk th fe fg fu ((Rect.unit (s := S8192) off S16.size inb).emb x)) :
    upTo th fe fg fu (k + 1) f' := by
  intro j hj
  by_cases h : j ∈ (Rect.unit (s := S8192) off S16.size inb).set
  · rw [← Rect.map_emb_univ] at h; obtain ⟨x, -, rfl⟩ := Finset.mem_map.mp h
    rw [hin, hpay]
  · rw [hout j h]
    refine hf j ?_
    by_contra hlt
    refine h (Rect.mem_set_unit.mpr fun a => ?_)
    match a with
    | 0 => subst hoff; exact ⟨by simpa using hlt, by show (j 0).val < 16 * k + 16; omega⟩

section Trip

variable (d : Dev nD) (c : Fin τ.nSC) (s : Fin τ.nSub)

/-- Before trip `k` of a loop over buffer set A. -/
def invA (th : S16.Idx → F .f32) (fe fg fu : S8192.Idx → F .f32) (k : ℕ) : sProp 𝕄 :=
  iprop(((ue0).view.loc (V d c s) ↦{fullShare} fe) ∗ ((ep0).view.loc (V d c s) ↦{fullShare} fg) ∗ ((um0).view.loc (V d c s) ↦{fullShare} fu)
    ∗ ∃ f, ⌜upTo th fe fg fu k f⌝ ∗ (ou0).view.loc (V d c s) ↦{fullShare} f)

set_option maxHeartbeats 1000000 in
theorem tripA (th : S16.Idx → F .f32) (fe fg fu : S8192.Idx → F .f32) (k : ℕ) (off : Fin 1 → ℕ) (inb : ∀ a, off a + S16.size a ≤ S8192.size a)
    (hoff : off = ![16 * k]) :
    invA d c s th fe fg fu k ⊢ wp frame (wpE (defs₀ (F := F)) 𝒱₀ (V d c s) none) Set.univ
      (tripProg (c := c) (s := s) off inb (k0_pay3 th) ue0 ep0 um0 ou0) fun _ => invA d c s th fe fg fu (k + 1) := by
  unfold invA tripProg
  simp only [Prog.lift, Prog.bind_op, Prog.bind_ret]
  iintro ⟨He, Hg, Hu, %f, %hf, Ho⟩
  iapply (wp_load_rect (m := ue0) (r := Rect.unit (s := S8192) off S16.size inb) 𝒱₀ (V d c s) none Set.univ (S := Finset.univ) (q := fullShare) (Finset.subset_univ _)) $$ He
  iintro He
  iapply (wp_load_rect (m := ep0) (r := Rect.unit (s := S8192) off S16.size inb) 𝒱₀ (V d c s) none Set.univ (S := Finset.univ) (q := fullShare) (Finset.subset_univ _)) $$ Hg
  iintro Hg
  iapply (wp_load_rect (m := um0) (r := Rect.unit (s := S8192) off S16.size inb) 𝒱₀ (V d c s) none Set.univ (S := Finset.univ) (q := fullShare) (Finset.subset_univ _)) $$ Hu
  iintro Hu
  iapply (wp_load_rect (m := ou0) (r := Rect.unit (s := S8192) off S16.size inb) 𝒱₀ (V d c s) none Set.univ (S := Finset.univ) (q := fullShare) (Finset.subset_univ _)) $$ Ho
  iintro Ho
  iapply (wp_store (m := ou0) (r := Rect.unit (s := S8192) off S16.size inb) 𝒱₀ (V d c s) none Set.univ (S := Finset.univ) (Finset.subset_univ _)) $$ Ho
  iintro Ho
  sl_step
  isplitl [He]; · iexact He
  isplitl [Hg]; · iexact Hg
  isplitl [Hu]; · iexact Hu
  iexists _; isplitr
  swap; · iexact Ho
  ipureintro
  refine upTo_step th fe fg fu k off inb hoff f _ _ hf
    (fun x => View.write_emb_of_mem (v := (ou0).access (Rect.unit (s := S8192) off S16.size inb)) (Val := Elt F) f _ (Finset.mem_univ x))
    (fun j hj => View.write_of_not_mem (v := (ou0).access (Rect.unit (s := S8192) off S16.size inb)) (Val := Elt F) f _ _ ?_) fun x => ?_
  · intro h; exact hj ((View.set_slice_whole cc0_scratch7 (Rect.unit (s := S8192) off S16.size inb)) ▸ h)
  · have hl : lane ((Rect.unit (s := S8192) off S16.size inb).emb x) = x := by
      funext a
      match a with
      | 0 => subst hoff; apply Fin.ext; show (16 * k + 1 * (x 0).val) % 16 = (x 0).val; have : (x 0).val < 16 := (x 0).isLt; omega
    unfold chunk; rw [hl]; rfl

/-- Before trip `k` of a loop over buffer set B. -/
def invB (th : S16.Idx → F .f32) (fe fg fu : S8192.Idx → F .f32) (k : ℕ) : sProp 𝕄 :=
  iprop(((ue1).view.loc (V d c s) ↦{fullShare} fe) ∗ ((ep1).view.loc (V d c s) ↦{fullShare} fg) ∗ ((um1).view.loc (V d c s) ↦{fullShare} fu)
    ∗ ∃ f, ⌜upTo th fe fg fu k f⌝ ∗ (ou1).view.loc (V d c s) ↦{fullShare} f)

set_option maxHeartbeats 1000000 in
theorem tripB (th : S16.Idx → F .f32) (fe fg fu : S8192.Idx → F .f32) (k : ℕ) (off : Fin 1 → ℕ) (inb : ∀ a, off a + S16.size a ≤ S8192.size a)
    (hoff : off = ![16 * k]) :
    invB d c s th fe fg fu k ⊢ wp frame (wpE (defs₀ (F := F)) 𝒱₀ (V d c s) none) Set.univ
      (tripProg (c := c) (s := s) off inb (k0_pay3 th) ue1 ep1 um1 ou1) fun _ => invB d c s th fe fg fu (k + 1) := by
  unfold invB tripProg
  simp only [Prog.lift, Prog.bind_op, Prog.bind_ret]
  iintro ⟨He, Hg, Hu, %f, %hf, Ho⟩
  iapply (wp_load_rect (m := ue1) (r := Rect.unit (s := S8192) off S16.size inb) 𝒱₀ (V d c s) none Set.univ (S := Finset.univ) (q := fullShare) (Finset.subset_univ _)) $$ He
  iintro He
  iapply (wp_load_rect (m := ep1) (r := Rect.unit (s := S8192) off S16.size inb) 𝒱₀ (V d c s) none Set.univ (S := Finset.univ) (q := fullShare) (Finset.subset_univ _)) $$ Hg
  iintro Hg
  iapply (wp_load_rect (m := um1) (r := Rect.unit (s := S8192) off S16.size inb) 𝒱₀ (V d c s) none Set.univ (S := Finset.univ) (q := fullShare) (Finset.subset_univ _)) $$ Hu
  iintro Hu
  iapply (wp_load_rect (m := ou1) (r := Rect.unit (s := S8192) off S16.size inb) 𝒱₀ (V d c s) none Set.univ (S := Finset.univ) (q := fullShare) (Finset.subset_univ _)) $$ Ho
  iintro Ho
  iapply (wp_store (m := ou1) (r := Rect.unit (s := S8192) off S16.size inb) 𝒱₀ (V d c s) none Set.univ (S := Finset.univ) (Finset.subset_univ _)) $$ Ho
  iintro Ho
  sl_step
  isplitl [He]; · iexact He
  isplitl [Hg]; · iexact Hg
  isplitl [Hu]; · iexact Hu
  iexists _; isplitr
  swap; · iexact Ho
  ipureintro
  refine upTo_step th fe fg fu k off inb hoff f _ _ hf
    (fun x => View.write_emb_of_mem (v := (ou1).access (Rect.unit (s := S8192) off S16.size inb)) (Val := Elt F) f _ (Finset.mem_univ x))
    (fun j hj => View.write_of_not_mem (v := (ou1).access (Rect.unit (s := S8192) off S16.size inb)) (Val := Elt F) f _ _ ?_) fun x => ?_
  · intro h; exact hj ((View.set_slice_whole cc0_scratch8 (Rect.unit (s := S8192) off S16.size inb)) ▸ h)
  · have hl : lane ((Rect.unit (s := S8192) off S16.size inb).emb x) = x := by
      funext a
      match a with
      | 0 => subst hoff; apply Fin.ext; show (16 * k + 1 * (x 0).val) % 16 = (x 0).val; have : (x 0).val < 16 := (x 0).isLt; omega
    unfold chunk; rw [hl]; rfl

end Trip

end Cert.Proof.H

end
-- ==== Proof.H.Chunks.lean ====
/- One task of the SparseCore call: the subcore's six chunks, fetched three arrays at a time into two sets of scratch buffers,
   computed by the loops, and copied out. Each chunk of the result ends holding the samples of that chunk's places. -/
module

public import proofs.«01_k».proof.Proof.H.Sc

@[expose] public section

noncomputable section

namespace Cert.Proof.H

open Cert.HybridIdeal Cert.HybridIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "priH" => (Memref.whole Cert.HybridIdeal.main_v2_scv : Memref Cert.HybridIdeal.sig Kind.scVector Space.hbm Cert.HybridIdeal.S16 EltTy.f32)
local notation "umixH" => (Memref.whole Cert.HybridIdeal.main_arg0_scv : Memref Cert.HybridIdeal.sig Kind.scVector Space.hbm Cert.HybridIdeal.S128x32768 EltTy.f32)
local notation "uexpH" => (Memref.whole Cert.HybridIdeal.main_arg1_scv : Memref Cert.HybridIdeal.sig Kind.scVector Space.hbm Cert.HybridIdeal.S128x32768 EltTy.f32)
local notation "epsH" => (Memref.whole Cert.HybridIdeal.main_arg2_scv : Memref Cert.HybridIdeal.sig Kind.scVector Space.hbm Cert.HybridIdeal.S128x32768 EltTy.f32)
local notation "outH" => (Memref.whole Cert.HybridIdeal.main_v3_scv : Memref Cert.HybridIdeal.sig Kind.scVector Space.hbm Cert.HybridIdeal.S48x32768 EltTy.f32)
local notation "priV" => (Memref.whole Cert.HybridIdeal.cc0_scratch0 : Memref Cert.HybridIdeal.sig Kind.scVector Space.vmem Cert.HybridIdeal.S16 EltTy.f32)
local notation "um0" => (Memref.whole Cert.HybridIdeal.cc0_scratch1 : Memref Cert.HybridIdeal.sig Kind.scVector Space.vmem Cert.HybridIdeal.S8192 EltTy.f32)
local notation "um1" => (Memref.whole Cert.HybridIdeal.cc0_scratch2 : Memref Cert.HybridIdeal.sig Kind.scVector Space.vmem Cert.HybridIdeal.S8192 EltTy.f32)
local notation "ue0" => (Memref.whole Cert.HybridIdeal.cc0_scratch3 : Memref Cert.HybridIdeal.sig Kind.scVector Space.vmem Cert.HybridIdeal.S8192 EltTy.f32)
local notation "ue1" => (Memref.whole Cert.HybridIdeal.cc0_scratch4 : Memref Cert.HybridIdeal.sig Kind.scVector Space.vmem Cert.HybridIdeal.S8192 EltTy.f32)
local notation "ep0" => (Memref.whole Cert.HybridIdeal.cc0_scratch5 : Memref Cert.HybridIdeal.sig Kind.scVector Space.vmem Cert.HybridIdeal.S8192 EltTy.f32)
local notation "ep1" => (Memref.whole Cert.HybridIdeal.cc0_scratch6 : Memref Cert.HybridIdeal.sig Kind.scVector Space.vmem Cert.HybridIdeal.S8192 EltTy.f32)
local notation "ou0" => (Memref.whole Cert.HybridIdeal.cc0_scratch7 : Memref Cert.HybridIdeal.sig Kind.scVector Space.vmem Cert.HybridIdeal.S8192 EltTy.f32)
local notation "ou1" => (Memref.whole Cert.HybridIdeal.cc0_scratch8 : Memref Cert.HybridIdeal.sig Kind.scVector Space.vmem Cert.HybridIdeal.S8192 EltTy.f32)

variable (m : (ℓ : Loc nD τ sig) → Buf (Elt F) ℓ)

abbrev pLoc (d : Dev nD) : Loc nD τ sig := (SparseCore.T d).loc main_v2
abbrev uLoc (d : Dev nD) : Loc nD τ sig := (SparseCore.T d).loc main_arg0
abbrev eLoc (d : Dev nD) : Loc nD τ sig := (SparseCore.T d).loc main_arg1
abbrev gLoc (d : Dev nD) : Loc nD τ sig := (SparseCore.T d).loc main_arg2
abbrev oLoc (d : Dev nD) : Loc nD τ sig := (SparseCore.T d).loc main_v3

/-! ## The chunks -/

abbrev inRect (L : grid0.Coords) (r : Fin 6) : Rect S128x32768 :=
  Rect.unit (s := S128x32768) (k0_off1 L (BitVec.ofNat 32 r.val)) S1x8192.size (k0_off1_inb L r)
abbrev outRect (L : grid0.Coords) (r : Fin 6) : Rect S48x32768 :=
  Rect.unit (s := S48x32768) (k0_off3 L (BitVec.ofNat 32 r.val)) S1x8192.size (k0_off3_inb L r)
abbrev inSet (L : grid0.Coords) (r : Fin 6) : Finset S128x32768.Idx := (inRect L r).set
abbrev outSet (L : grid0.Coords) (r : Fin 6) : Finset S48x32768.Idx := (outRect L r).set

/-- The chunk of an input, and of the result, as the task addresses it. -/
abbrev inK (M : Memref sig .scVector .hbm S128x32768 .f32) (L : grid0.Coords) (w : BitVec 32)
    (h : ∀ a, (k0_off1 L w) a + S1x8192.size a ≤ S128x32768.size a) : Memref sig .scVector .hbm S8192 .f32 :=
  (M.slice (Rect.unit (s := S128x32768) (k0_off1 L w) S1x8192.size h) (fun _ => rfl)).squeeze S8192 squeezes_S1x8192_S8192
abbrev outK (M : Memref sig .scVector .hbm S48x32768 .f32) (L : grid0.Coords) (w : BitVec 32)
    (h : ∀ a, (k0_off3 L w) a + S1x8192.size a ≤ S48x32768.size a) : Memref sig .scVector .hbm S8192 .f32 :=
  (M.slice (Rect.unit (s := S48x32768) (k0_off3 L w) S1x8192.size h) (fun _ => rfl)).squeeze S8192 squeezes_S1x8192_S8192

section Tile

variable (d : Dev nD) (L : grid0.Coords)

theorem pts_u (r : Fin 6) (w : BitVec 32) (hw : BitVec.ofNat 32 r.val = w) (h : ∀ a, (k0_off1 L w) a + S1x8192.size a ≤ S128x32768.size a)
    (f : Buf (Elt F) (uLoc d)) :
    (((inK umixH L w h).view.loc (V d (cV L) (jV L)) ↦[(inK umixH L w h).view.set]{fullShare} f : sProp 𝕄)) = uLoc d ↦[inSet L r]{fullShare} f := by
  subst hw
  rw [show (inK umixH L (BitVec.ofNat 32 r.val) h).view.set = inSet L r from by
    show (((umixH).view.slice (inRect L r)).reshape S8192 squeezes_S1x8192_S8192.numel_eq).set = _
    rw [View.set_reshape]; exact View.set_slice_whole main_arg0_scv (inRect L r)]

theorem pts_e (r : Fin 6) (w : BitVec 32) (hw : BitVec.ofNat 32 r.val = w) (h : ∀ a, (k0_off1 L w) a + S1x8192.size a ≤ S128x32768.size a)
    (f : Buf (Elt F) (eLoc d)) :
    (((inK uexpH L w h).view.loc (V d (cV L) (jV L)) ↦[(inK uexpH L w h).view.set]{fullShare} f : sProp 𝕄)) = eLoc d ↦[inSet L r]{fullShare} f := by
  subst hw
  rw [show (inK uexpH L (BitVec.ofNat 32 r.val) h).view.set = inSet L r from by
    show (((uexpH).view.slice (inRect L r)).reshape S8192 squeezes_S1x8192_S8192.numel_eq).set = _
    rw [View.set_reshape]; exact View.set_slice_whole main_arg1_scv (inRect L r)]

theorem pts_g (r : Fin 6) (w : BitVec 32) (hw : BitVec.ofNat 32 r.val = w) (h : ∀ a, (k0_off1 L w) a + S1x8192.size a ≤ S128x32768.size a)
    (f : Buf (Elt F) (gLoc d)) :
    (((inK epsH L w h).view.loc (V d (cV L) (jV L)) ↦[(inK epsH L w h).view.set]{fullShare} f : sProp 𝕄)) = gLoc d ↦[inSet L r]{fullShare} f := by
  subst hw
  rw [show (inK epsH L (BitVec.ofNat 32 r.val) h).view.set = inSet L r from by
    show (((epsH).view.slice (inRect L r)).reshape S8192 squeezes_S1x8192_S8192.numel_eq).set = _
    rw [View.set_reshape]; exact View.set_slice_whole main_arg2_scv (inRect L r)]

theorem pts_o (r : Fin 6) (w : BitVec 32) (hw : BitVec.ofNat 32 r.val = w) (h : ∀ a, (k0_off3 L w) a + S1x8192.size a ≤ S48x32768.size a)
    (f : Buf (Elt F) (oLoc d)) :
    (((outK outH L w h).view.loc (V d (cV L) (jV L)) ↦[(outK outH L w h).view.set]{fullShare} f : sProp 𝕄)) = oLoc d ↦[outSet L r]{fullShare} f := by
  subst hw
  rw [show (outK outH L (BitVec.ofNat 32 r.val) h).view.set = outSet L r from by
    show (((outH).view.slice (outRect L r)).reshape S8192 squeezes_S1x8192_S8192.numel_eq).set = _
    rw [View.set_reshape]; exact View.set_slice_whole main_v3_scv (outRect L r)]

theorem pts_p (q : PosShare TreeShare) (f : Buf (Elt F) (pLoc d)) :
    ((priH).view.loc (V d (cV L) (jV L)) ↦{q} f : sProp 𝕄) = pLoc d ↦{q} f := rfl

abbrev cell (d : Dev nD) (L : grid0.Coords) (s : DmaSem sig) : GSem nD τ sig := (V d (cV L) (jV L), .dma s)

/-- The task's five semaphores are among the subcore's own. -/
theorem ownSems0_V :
    (ownSems0 (V d (cV L) (jV L)) : sProp 𝕄)
      = iprop(semVal (cell d L cc0_scratch9.sem) 0 ∗ semVal (cell d L cc0_scratch10.sem) 0 ∗ semVal (cell d L cc0_scratch11.sem) 0 ∗ semVal (cell d L cc0_scratch12.sem) 0 ∗ semVal (cell d L cc0_scoped0.sem) 0
          ∗ bigSep ((((((ownCells (V d (cV L) (jV L))).erase (cell d L cc0_scratch9.sem)).erase (cell d L cc0_scratch10.sem)).erase (cell d L cc0_scratch11.sem)).erase (cell d L cc0_scratch12.sem)).erase (cell d L cc0_scoped0.sem)) fun g => semVal g 0) := by
  unfold SparseCore.Cfg.ownSems0
  rw [SparseCore.bigSep_erase' ((mem_ownCells (g := cell d L cc0_scratch9.sem)).mpr ⟨rfl, by show (SemLoc.dma cc0_scratch9.sem : SemLoc sig).isScoped .scVector = true; decide⟩),
    SparseCore.bigSep_erase' (Finset.mem_erase.mpr ⟨fun e => absurd (congrArg Prod.snd e) (show (SemLoc.dma cc0_scratch10.sem : SemLoc sig) ≠ SemLoc.dma cc0_scratch9.sem by decide), (mem_ownCells (g := cell d L cc0_scratch10.sem)).mpr ⟨rfl, by show (SemLoc.dma cc0_scratch10.sem : SemLoc sig).isScoped .scVector = true; decide⟩⟩),
    SparseCore.bigSep_erase' (Finset.mem_erase.mpr ⟨fun e => absurd (congrArg Prod.snd e) (show (SemLoc.dma cc0_scratch11.sem : SemLoc sig) ≠ SemLoc.dma cc0_scratch10.sem by decide), Finset.mem_erase.mpr ⟨fun e => absurd (congrArg Prod.snd e) (show (SemLoc.dma cc0_scratch11.sem : SemLoc sig) ≠ SemLoc.dma cc0_scratch9.sem by decide), (mem_ownCells (g := cell d L cc0_scratch11.sem)).mpr ⟨rfl, by show (SemLoc.dma cc0_scratch11.sem : SemLoc sig).isScoped .scVector = true; decide⟩⟩⟩),
    SparseCore.bigSep_erase' (Finset.mem_erase.mpr ⟨fun e => absurd (congrArg Prod.snd e) (show (SemLoc.dma cc0_scratch12.sem : SemLoc sig) ≠ SemLoc.dma cc0_scratch11.sem by decide), Finset.mem_erase.mpr ⟨fun e => absurd (congrArg Prod.snd e) (show (SemLoc.dma cc0_scratch12.sem : SemLoc sig) ≠ SemLoc.dma cc0_scratch10.sem by decide), Finset.mem_erase.mpr ⟨fun e => absurd (congrArg Prod.snd e) (show (SemLoc.dma cc0_scratch12.sem : SemLoc sig) ≠ SemLoc.dma cc0_scratch9.sem by decide), (mem_ownCells (g := cell d L cc0_scratch12.sem)).mpr ⟨rfl, by show (SemLoc.dma cc0_scratch12.sem : SemLoc sig).isScoped .scVector = true; decide⟩⟩⟩⟩),
    SparseCore.bigSep_erase' (Finset.mem_erase.mpr ⟨fun e => absurd (congrArg Prod.snd e) (show (SemLoc.dma cc0_scoped0.sem : SemLoc sig) ≠ SemLoc.dma cc0_scratch12.sem by decide), Finset.mem_erase.mpr ⟨fun e => absurd (congrArg Prod.snd e) (show (SemLoc.dma cc0_scoped0.sem : SemLoc sig) ≠ SemLoc.dma cc0_scratch11.sem by decide), Finset.mem_erase.mpr ⟨fun e => absurd (congrArg Prod.snd e) (show (SemLoc.dma cc0_scoped0.sem : SemLoc sig) ≠ SemLoc.dma cc0_scratch10.sem by decide), Finset.mem_erase.mpr ⟨fun e => absurd (congrArg Prod.snd e) (show (SemLoc.dma cc0_scoped0.sem : SemLoc sig) ≠ SemLoc.dma cc0_scratch9.sem by decide), (mem_ownCells (g := cell d L cc0_scoped0.sem)).mpr ⟨rfl, by show (SemLoc.dma cc0_scoped0.sem : SemLoc sig).isScoped .scVector = true; decide⟩⟩⟩⟩⟩)]

/-- The nine scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f) ∗ (∃ f, (V d (cV L) (jV L)).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩⟩⟩⟩)]

variable [FloatOps F]

/-! ## What the call computes -/

/-- The sixteen thresholds: each lane's from its own prior word and its mirror's. -/
def thr (pri : S16.Idx → F .f32) : S16.Idx → F .f32 :=
  k0_pay2 pri fun x => pri fun | 0 => ⟨15 - (x 0).val, by have : (x 0).val < 16 := (x 0).isLt; show _ < 16; omega⟩

/-- Row `80 + i` of an input is row `i` of the call's result. -/
def up (i : S48x32768.Idx) : S128x32768.Idx :=
  fun | 0 => ⟨80 + (i 0).val, by have : (i 0).val < 48 := (i 0).isLt; show _ < 128; omega⟩
      | 1 => ⟨(i 1).val, by have : (i 1).val < 32768 := (i 1).isLt; show _ < 32768; omega⟩

/-- The lane a place of the result falls on. -/
def laneO (i : S48x32768.Idx) : S16.Idx := fun | 0 => ⟨(i 1).val % 16, Nat.mod_lt _ (by decide)⟩

/-- The call's result. -/
def scOut (pri : S16.Idx → F .f32) (um ue ep : S128x32768.Idx → F .f32) : S48x32768.Idx → F .f32 :=
  fun i => elem (thr pri (laneO i)) (ue (up i)) (ep (up i)) (um (up i))

theorem off_eq : ∀ (L : grid0.Coords) (r : Fin 6), ∃ a b : ℕ, b * 8192 + 8192 ≤ 32768 ∧ a < 48 ∧ a * 4 + b = ((L 1).val * 2 + (L 0).val) * 6 + r.val
    ∧ k0_off1 L (BitVec.ofNat 32 r.val) = ![80 + a, b * 8192] ∧ k0_off3 L (BitVec.ofNat 32 r.val) = ![a, b * 8192] := by
  have h : ∀ (L : grid0.Coords) (r : Fin 6), k0_off1 L (BitVec.ofNat 32 r.val) = ![80 + (((L 1).val * 2 + (L 0).val) * 6 + r.val) / 4, ((((L 1).val * 2 + (L 0).val) * 6 + r.val) % 4) * 8192]
      ∧ k0_off3 L (BitVec.ofNat 32 r.val) = ![(((L 1).val * 2 + (L 0).val) * 6 + r.val) / 4, ((((L 1).val * 2 + (L 0).val) * 6 + r.val) % 4) * 8192] := by decide +kernel
  intro L r
  have h0 : (L 0).val < 2 := (L 0).isLt
  have h1 : (L 1).val < 16 := (L 1).isLt
  have := r.isLt
  exact ⟨_, _, by omega, by omega, by omega, (h L r).1, (h L r).2⟩

end Tile

end Cert.Proof.H

end
-- ==== Proof.H.Vals.lean ====
/- What a task fetches, computes and leaves in the result, as values. -/
module

public import proofs.«01_k».proof.Proof.H.Chunks
public import Idealize.ShloMosaic.Lib.ViewIndex

@[expose] public section

noncomputable section

namespace Cert.Proof.H

open Cert.HybridIdeal Cert.HybridIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "priH" => (Memref.whole Cert.HybridIdeal.main_v2_scv : Memref Cert.HybridIdeal.sig Kind.scVector Space.hbm Cert.HybridIdeal.S16 EltTy.f32)
local notation "umixH" => (Memref.whole Cert.HybridIdeal.main_arg0_scv : Memref Cert.HybridIdeal.sig Kind.scVector Space.hbm Cert.HybridIdeal.S128x32768 EltTy.f32)
local notation "uexpH" => (Memref.whole Cert.HybridIdeal.main_arg1_scv : Memref Cert.HybridIdeal.sig Kind.scVector Space.hbm Cert.HybridIdeal.S128x32768 EltTy.f32)
local notation "epsH" => (Memref.whole Cert.HybridIdeal.main_arg2_scv : Memref Cert.HybridIdeal.sig Kind.scVector Space.hbm Cert.HybridIdeal.S128x32768 EltTy.f32)
local notation "outH" => (Memref.whole Cert.HybridIdeal.main_v3_scv : Memref Cert.HybridIdeal.sig Kind.scVector Space.hbm Cert.HybridIdeal.S48x32768 EltTy.f32)
local notation "priV" => (Memref.whole Cert.HybridIdeal.cc0_scratch0 : Memref Cert.HybridIdeal.sig Kind.scVector Space.vmem Cert.HybridIdeal.S16 EltTy.f32)
local notation "um0" => (Memref.whole Cert.HybridIdeal.cc0_scratch1 : Memref Cert.HybridIdeal.sig Kind.scVector Space.vmem Cert.HybridIdeal.S8192 EltTy.f32)
local notation "um1" => (Memref.whole Cert.HybridIdeal.cc0_scratch2 : Memref Cert.HybridIdeal.sig Kind.scVector Space.vmem Cert.HybridIdeal.S8192 EltTy.f32)
local notation "ue0" => (Memref.whole Cert.HybridIdeal.cc0_scratch3 : Memref Cert.HybridIdeal.sig Kind.scVector Space.vmem Cert.HybridIdeal.S8192 EltTy.f32)
local notation "ue1" => (Memref.whole Cert.HybridIdeal.cc0_scratch4 : Memref Cert.HybridIdeal.sig Kind.scVector Space.vmem Cert.HybridIdeal.S8192 EltTy.f32)
local notation "ep0" => (Memref.whole Cert.HybridIdeal.cc0_scratch5 : Memref Cert.HybridIdeal.sig Kind.scVector Space.vmem Cert.HybridIdeal.S8192 EltTy.f32)
local notation "ep1" => (Memref.whole Cert.HybridIdeal.cc0_scratch6 : Memref Cert.HybridIdeal.sig Kind.scVector Space.vmem Cert.HybridIdeal.S8192 EltTy.f32)
local notation "ou0" => (Memref.whole Cert.HybridIdeal.cc0_scratch7 : Memref Cert.HybridIdeal.sig Kind.scVector Space.vmem Cert.HybridIdeal.S8192 EltTy.f32)
local notation "ou1" => (Memref.whole Cert.HybridIdeal.cc0_scratch8 : Memref Cert.HybridIdeal.sig Kind.scVector Space.vmem Cert.HybridIdeal.S8192 EltTy.f32)

variable (m : (ℓ : Loc nD τ sig) → Buf (Elt F) ℓ)

theorem chk : k0_chk1 k0_pay1 := by decide +kernel
/-- The whole of a buffer written is what was written. -/
theorem wr_1 (d : Dev nD) (L : grid0.Coords) (f w : S8192.Idx → F .f32) :
    ((um0).view.loc (V d (cV L) (jV L)) ↦{fullShare} View.write (Elt F) (um0).view f w Finset.univ : sProp 𝕄) = (um0).view.loc (V d (cV L) (jV L)) ↦{fullShare} w := by
  rw [View.write_whole_univ]
theorem wr_2 (d : Dev nD) (L : grid0.Coords) (f w : S8192.Idx → F .f32) :
    ((um1).view.loc (V d (cV L) (jV L)) ↦{fullShare} View.write (Elt F) (um1).view f w Finset.univ : sProp 𝕄) = (um1).view.loc (V d (cV L) (jV L)) ↦{fullShare} w := by
  rw [View.write_whole_univ]
theorem wr_3 (d : Dev nD) (L : grid0.Coords) (f w : S8192.Idx → F .f32) :
    ((ue0).view.loc (V d (cV L) (jV L)) ↦{fullShare} View.write (Elt F) (ue0).view f w Finset.univ : sProp 𝕄) = (ue0).view.loc (V d (cV L) (jV L)) ↦{fullShare} w := by
  rw [View.write_whole_univ]
theorem wr_4 (d : Dev nD) (L : grid0.Coords) (f w : S8192.Idx → F .f32) :
    ((ue1).view.loc (V d (cV L) (jV L)) ↦{fullShare} View.write (Elt F) (ue1).view f w Finset.univ : sProp 𝕄) = (ue1).view.loc (V d (cV L) (jV L)) ↦{fullShare} w := by
  rw [View.write_whole_univ]
theorem wr_5 (d : Dev nD) (L : grid0.Coords) (f w : S8192.Idx → F .f32) :
    ((ep0).view.loc (V d (cV L) (jV L)) ↦{fullShare} View.write (Elt F) (ep0).view f w Finset.univ : sProp 𝕄) = (ep0).view.loc (V d (cV L) (jV L)) ↦{fullShare} w := by
  rw [View.write_whole_univ]
theorem wr_6 (d : Dev nD) (L : grid0.Coords) (f w : S8192.Idx → F .f32) :
    ((ep1).view.loc (V d (cV L) (jV L)) ↦{fullShare} View.write (Elt F) (ep1).view f w Finset.univ : sProp 𝕄) = (ep1).view.loc (V d (cV L) (jV L)) ↦{fullShare} w := by
  rw [View.write_whole_univ]

/-- What the task fetches of chunk `r`. -/
def rdE (d : Dev nD) (L : grid0.Coords) (r : Fin 6) : S8192.Idx → F .f32 :=
  (inK uexpH L (BitVec.ofNat 32 r.val) (k0_off1_inb L r)).view.read (Elt F) (m (eLoc d))

/-- What the task fetches of chunk `r`. -/
def rdG (d : Dev nD) (L : grid0.Coords) (r : Fin 6) : S8192.Idx → F .f32 :=
  (inK epsH L (BitVec.ofNat 32 r.val) (k0_off1_inb L r)).view.read (Elt F) (m (gLoc d))

/-- What the task fetches of chunk `r`. -/
def rdU (d : Dev nD) (L : grid0.Coords) (r : Fin 6) : S8192.Idx → F .f32 :=
  (inK umixH L (BitVec.ofNat 32 r.val) (k0_off1_inb L r)).view.read (Elt F) (m (uLoc d))

/-- The thresholds as the task computes them: a load of the prior's words, and the same words gathered at the mirrored lanes. -/
def th' (f0 pri : S16.Idx → F .f32) : S16.Idx → F .f32 :=
  k0_pay2 (View.readAt (Elt F) (priV).view (Rect.unit (s := S16) ![0] S16.size inb_S16_S16_0).toLoadRect
      (View.write (Elt F) (priV).view f0 ((priH).view.read (Elt F) pri) Finset.univ))
    (loadIdx (((priV).access (.whole S16)).read (Elt F) pri) ![k0_pay1] (k0_idx1_inb k0_pay1 chk))

theorem trips_1 : 512 ≤ k0_t1_loop.trips := by decide +kernel
theorem trips_2 : 512 ≤ k0_t2_loop.trips := by decide +kernel
theorem trips_3 : 512 ≤ k0_t3_loop.trips := by decide +kernel
theorem trips_4 : 512 ≤ k0_t4_loop.trips := by decide +kernel
theorem trips_5 : 512 ≤ k0_t5_loop.trips := by decide +kernel
theorem trips_6 : 512 ≤ k0_t6_loop.trips := by decide +kernel

theorem upTo_zero (th : S16.Idx → F .f32) (fe fg fu f : S8192.Idx → F .f32) : upTo th fe fg fu 0 f := fun _ h => absurd h (by omega)

theorem upTo_full (th : S16.Idx → F .f32) (fe fg fu : S8192.Idx → F .f32) (n : ℕ) (hn : 512 ≤ n) (f : S8192.Idx → F .f32)
    (h : upTo th fe fg fu n f) : f = chunk th fe fg fu :=
  funext fun j => h j (by have : (j 0).val < 8192 := (j 0).isLt; omega)

/-- Where place `x` of a chunk lies. -/
theorem emb_in (L : grid0.Coords) (r : Fin 6) (x : S8192.Idx) :
    ∃ j : S128x32768.Idx, j = (inRect L r).emb (Fin.cons ⟨0, Nat.one_pos⟩ x) ∧ ((inK umixH L (BitVec.ofNat 32 r.val) (k0_off1_inb L r)).view.emb x = j
      ∧ (inK uexpH L (BitVec.ofNat 32 r.val) (k0_off1_inb L r)).view.emb x = j ∧ (inK epsH L (BitVec.ofNat 32 r.val) (k0_off1_inb L r)).view.emb x = j) := by
  have e : (inRect L r).emb (Shape.reshapeEquiv squeezes_S1x8192_S8192.numel_eq x) = (inRect L r).emb (Fin.cons ⟨0, Nat.one_pos⟩ x) := by
    rw [Shape.reshapeEquiv_cons_one]
  exact ⟨_, rfl, e, e, e⟩

theorem emb_out (L : grid0.Coords) (r : Fin 6) (x : S8192.Idx) :
    (outK outH L (BitVec.ofNat 32 r.val) (k0_off3_inb L r)).view.emb x = (outRect L r).emb (Fin.cons ⟨0, Nat.one_pos⟩ x) := by
  have e : (outRect L r).emb (Shape.reshapeEquiv squeezes_S1x8192_S8192.numel_eq x) = (outRect L r).emb (Fin.cons ⟨0, Nat.one_pos⟩ x) := by
    rw [Shape.reshapeEquiv_cons_one]
  exact e

/-- The loop's chunk is the call's result at the chunk's places. -/
theorem chunk_eq (d : Dev nD) (L : grid0.Coords) (r : Fin 6) (pri : S16.Idx → F .f32) (x : S8192.Idx) :
    chunk (thr pri) (rdE m d L r) (rdG m d L r) (rdU m d L r) x
      = scOut pri (m (uLoc d)) (m (eLoc d)) (m (gLoc d)) ((outK outH L (BitVec.ofNat 32 r.val) (k0_off3_inb L r)).view.emb x) := by
  obtain ⟨a, b, hb, ha, -, h1, h3⟩ := off_eq L r
  obtain ⟨j, hj, eu, ee, eg⟩ := emb_in L r x
  rw [emb_out]
  have hx : (x 0).val < 8192 := (x 0).isLt
  have hup : up ((outRect L r).emb (Fin.cons ⟨0, Nat.one_pos⟩ x)) = j := by
    rw [hj]; funext t; apply Fin.ext
    match t with
    | 0 => show 80 + ((k0_off3 L (BitVec.ofNat 32 r.val)) 0 + 1 * 0) = (k0_off1 L (BitVec.ofNat 32 r.val)) 0 + 1 * 0
           rw [h1, h3]; show 80 + (a + 1 * 0) = 80 + a + 1 * 0; omega
    | 1 => show (k0_off3 L (BitVec.ofNat 32 r.val)) 1 + 1 * (x 0).val = (k0_off1 L (BitVec.ofNat 32 r.val)) 1 + 1 * (x 0).val
           rw [h1, h3]; rfl
  have hl : laneO ((outRect L r).emb (Fin.cons ⟨0, Nat.one_pos⟩ x)) = lane x := by
    funext t; apply Fin.ext
    match t with
    | 0 => show ((k0_off3 L (BitVec.ofNat 32 r.val)) 1 + 1 * (x 0).val) % 16 = (x 0).val % 16
           rw [h3]; show (b * 8192 + 1 * (x 0).val) % 16 = (x 0).val % 16; omega
  show elem (thr pri (lane x)) (rdE m d L r x) (rdG m d L r x) (rdU m d L r x) = elem (thr pri _) _ _ _
  rw [hup, hl]
  unfold rdE rdG rdU
  rw [View.read_apply, View.read_apply, View.read_apply, eu, ee, eg]; rfl

/-- A load of all sixteen words, and the gather at the mirrored lanes: the sixteen thresholds. -/
theorem th'_eq (f0 pri : S16.Idx → F .f32) : th' f0 pri = thr pri := by
  unfold th' thr
  rw [View.write_whole_univ]
  congr 1
  · funext x
    show pri _ = pri x
    congr 1; funext a
    match a with
    | 0 => apply Fin.ext; show 0 + 1 * (x 0).val = (x 0).val; omega
  · funext x
    show pri _ = pri _
    congr 1; funext a
    match a with
    | 0 =>
      apply Fin.ext
      show 0 + 1 * (k0_pay1 x).toNat = 15 - (x 0).val
      rw [(by decide +kernel : ∀ x : S16.Idx, (k0_pay1 x).toNat = 15 - (x 0).val) x]; omega

/-- The chunk of the result as the copy out leaves it. -/
theorem pts_done (d : Dev nD) (L : grid0.Coords) (r : Fin 6) (w : BitVec 32) (hw : BitVec.ofNat 32 r.val = w)
    (h : ∀ a, (k0_off3 L w) a + S1x8192.size a ≤ S48x32768.size a) (f0 pri : S16.Idx → F .f32) (base : Buf (Elt F) (oLoc d))
    (pay : S8192.Idx → F .f32) (hpay : pay = chunk (th' f0 pri) (rdE m d L r) (rdG m d L r) (rdU m d L r)) :
    ((outK outH L w h).view.loc (V d (cV L) (jV L)) ↦[(outK outH L w h).view.set]{fullShare}
        ((outK outH L w h).view.writes (Elt F) base [⟨Rect.whole S8192, pay⟩]) : sProp 𝕄)
      = oLoc d ↦[outSet L r]{fullShare} scOut pri (m (uLoc d)) (m (eLoc d)) (m (gLoc d)) := by
  subst hw hpay
  rw [← pts_o (F := F) d L r _ rfl h]
  refine pointsTo_congr fun i hi => ?_
  obtain ⟨x, -, rfl⟩ := Finset.mem_map.mp hi
  refine View.eq_of_read_eq (v := (outK outH L (BitVec.ofNat 32 r.val) h).view) ?_
  rw [View.read_writes_whole, th'_eq, View.read_apply, chunk_eq]; rfl

end Cert.Proof.H

end
-- ==== Proof.H.Body.lean ====
/- The body of one task, run. -/
module

public import proofs.«01_k».proof.Proof.H.Vals

@[expose] public section

noncomputable section

namespace Cert.Proof.H

open Cert.HybridIdeal Cert.HybridIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "priH" => (Memref.whole Cert.HybridIdeal.main_v2_scv : Memref Cert.HybridIdeal.sig Kind.scVector Space.hbm Cert.HybridIdeal.S16 EltTy.f32)
local notation "umixH" => (Memref.whole Cert.HybridIdeal.main_arg0_scv : Memref Cert.HybridIdeal.sig Kind.scVector Space.hbm Cert.HybridIdeal.S128x32768 EltTy.f32)
local notation "uexpH" => (Memref.whole Cert.HybridIdeal.main_arg1_scv : Memref Cert.HybridIdeal.sig Kind.scVector Space.hbm Cert.HybridIdeal.S128x32768 EltTy.f32)
local notation "epsH" => (Memref.whole Cert.HybridIdeal.main_arg2_scv : Memref Cert.HybridIdeal.sig Kind.scVector Space.hbm Cert.HybridIdeal.S128x32768 EltTy.f32)
local notation "outH" => (Memref.whole Cert.HybridIdeal.main_v3_scv : Memref Cert.HybridIdeal.sig Kind.scVector Space.hbm Cert.HybridIdeal.S48x32768 EltTy.f32)
local notation "priV" => (Memref.whole Cert.HybridIdeal.cc0_scratch0 : Memref Cert.HybridIdeal.sig Kind.scVector Space.vmem Cert.HybridIdeal.S16 EltTy.f32)
local notation "um0" => (Memref.whole Cert.HybridIdeal.cc0_scratch1 : Memref Cert.HybridIdeal.sig Kind.scVector Space.vmem Cert.HybridIdeal.S8192 EltTy.f32)
local notation "um1" => (Memref.whole Cert.HybridIdeal.cc0_scratch2 : Memref Cert.HybridIdeal.sig Kind.scVector Space.vmem Cert.HybridIdeal.S8192 EltTy.f32)
local notation "ue0" => (Memref.whole Cert.HybridIdeal.cc0_scratch3 : Memref Cert.HybridIdeal.sig Kind.scVector Space.vmem Cert.HybridIdeal.S8192 EltTy.f32)
local notation "ue1" => (Memref.whole Cert.HybridIdeal.cc0_scratch4 : Memref Cert.HybridIdeal.sig Kind.scVector Space.vmem Cert.HybridIdeal.S8192 EltTy.f32)
local notation "ep0" => (Memref.whole Cert.HybridIdeal.cc0_scratch5 : Memref Cert.HybridIdeal.sig Kind.scVector Space.vmem Cert.HybridIdeal.S8192 EltTy.f32)
local notation "ep1" => (Memref.whole Cert.HybridIdeal.cc0_scratch6 : Memref Cert.HybridIdeal.sig Kind.scVector Space.vmem Cert.HybridIdeal.S8192 EltTy.f32)
local notation "ou0" => (Memref.whole Cert.HybridIdeal.cc0_scratch7 : Memref Cert.HybridIdeal.sig Kind.scVector Space.vmem Cert.HybridIdeal.S8192 EltTy.f32)
local notation "ou1" => (Memref.whole Cert.HybridIdeal.cc0_scratch8 : Memref Cert.HybridIdeal.sig Kind.scVector Space.vmem Cert.HybridIdeal.S8192 EltTy.f32)

variable (m : (ℓ : Loc nD τ sig) → Buf (Elt F) ℓ)

/-- Chunk `r` of the three inputs and of the result, the result's at `f`. -/
abbrev part (d : Dev nD) (L : grid0.Coords) (f : Buf (Elt F) (oLoc d)) (r : Fin 6) : sProp 𝕄 :=
  iprop((uLoc d ↦[inSet L r]{fullShare} m (uLoc d)) ∗ (eLoc d ↦[inSet L r]{fullShare} m (eLoc d))
    ∗ (gLoc d ↦[inSet L r]{fullShare} m (gLoc d)) ∗ (oLoc d ↦[outSet L r]{fullShare} f))

abbrev parts (d : Dev nD) (L : grid0.Coords) (f : Buf (Elt F) (oLoc d)) : sProp 𝕄 :=
  iprop(part m d L f 0 ∗ part m d L f 1 ∗ part m d L f 2 ∗ part m d L f 3 ∗ part m d L f 4 ∗ part m d L f 5)

set_option maxHeartbeats 8000000 in
/-- The task on vector subcore `(L 0, L 1)` of device `d`. -/
theorem tile_body (d : Dev nD) (L : grid0.Coords) (pri : S16.Idx → F .f32) (qp : PosShare TreeShare)
    (hF : (K (F := F)).Facts) (O : CellTallies nD τ sig (HIx 1)) (W : Waits sig (HIx 1)) (hO : ∀ g, O g none = 0)
    (_planA : Transfers.BatchOf (V d (cV L) (jV L)) (SemLoc.dma (sig := sig) cc0_scratch9.sem) 3)
    (_planB : Transfers.BatchOf (V d (cV L) (jV L)) (SemLoc.dma (sig := sig) cc0_scratch10.sem) 3) :
    iprop(levAts (K (F := F)).L (K (F := F)).lev ∗ emp
        ∗ ((pLoc d ↦{qp} pri) ∗ parts m d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L priH (Memref.isWhole_whole _) umixH (Memref.isWhole_whole _) uexpH (Memref.isWhole_whole _) epsH (Memref.isWhole_whole _) outH (Memref.isWhole_whole _)
            priV (Memref.isWhole_whole _) um0 (Memref.isWhole_whole _) um1 (Memref.isWhole_whole _) ue0 (Memref.isWhole_whole _) ue1 (Memref.isWhole_whole _) ep0 (Memref.isWhole_whole _) ep1 (Memref.isWhole_whole _) ou0 (Memref.isWhole_whole _) ou1 (Memref.isWhole_whole _) cc0_scratch9 cc0_scratch10 cc0_scratch11 cc0_scratch12 cc0_scoped0)
          fun _ => iprop(((pLoc d ↦{qp} pri) ∗ parts m d L (scOut pri (m (uLoc d)) (m (eLoc d)) (m (gLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hp, ⟨Hu0, He0, Hg0, Ho0⟩, ⟨Hu1, He1, Hg1, Ho1⟩, ⟨Hu2, He2, Hg2, Ho2⟩, ⟨Hu3, He3, Hg3, Ho3⟩, ⟨Hu4, He4, Hg4, Ho4⟩, ⟨Hu5, He5, Hg5, Ho5⟩⟩, ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, Hbufs⟩, ⟨HsemA, HsemB, HsemC, HsemE, HsemP, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp := (Entails.of_eq (pts_p (F := F) d L _ _).symm) $$ Hp
  ihave Hu0 := (Entails.of_eq (pts_u (F := F) d L 0 0#32 rfl (k0_off1_inb L 0) _).symm) $$ Hu0
  ihave He0 := (Entails.of_eq (pts_e (F := F) d L 0 0#32 rfl (k0_off1_inb L 0) _).symm) $$ He0
  ihave Hg0 := (Entails.of_eq (pts_g (F := F) d L 0 0#32 rfl (k0_off1_inb L 0) _).symm) $$ Hg0
  ihave Ho0 := (Entails.of_eq (pts_o (F := F) d L 0 0#32 rfl (k0_off3_inb L 0) _).symm) $$ Ho0
  ihave Hu1 := (Entails.of_eq (pts_u (F := F) d L 1 1#32 rfl (k0_off1_inb L 1) _).symm) $$ Hu1
  ihave He1 := (Entails.of_eq (pts_e (F := F) d L 1 1#32 rfl (k0_off1_inb L 1) _).symm) $$ He1
  ihave Hg1 := (Entails.of_eq (pts_g (F := F) d L 1 1#32 rfl (k0_off1_inb L 1) _).symm) $$ Hg1
  ihave Ho1 := (Entails.of_eq (pts_o (F := F) d L 1 1#32 rfl (k0_off3_inb L 1) _).symm) $$ Ho1
  ihave Hu2 := (Entails.of_eq (pts_u (F := F) d L 2 2#32 rfl (k0_off1_inb L 2) _).symm) $$ Hu2
  ihave He2 := (Entails.of_eq (pts_e (F := F) d L 2 2#32 rfl (k0_off1_inb L 2) _).symm) $$ He2
  ihave Hg2 := (Entails.of_eq (pts_g (F := F) d L 2 2#32 rfl (k0_off1_inb L 2) _).symm) $$ Hg2
  ihave Ho2 := (Entails.of_eq (pts_o (F := F) d L 2 2#32 rfl (k0_off3_inb L 2) _).symm) $$ Ho2
  ihave Hu3 := (Entails.of_eq (pts_u (F := F) d L 3 3#32 rfl (k0_off1_inb L 3) _).symm) $$ Hu3
  ihave He3 := (Entails.of_eq (pts_e (F := F) d L 3 3#32 rfl (k0_off1_inb L 3) _).symm) $$ He3
  ihave Hg3 := (Entails.of_eq (pts_g (F := F) d L 3 3#32 rfl (k0_off1_inb L 3) _).symm) $$ Hg3
  ihave Ho3 := (Entails.of_eq (pts_o (F := F) d L 3 3#32 rfl (k0_off3_inb L 3) _).symm) $$ Ho3
  ihave Hu4 := (Entails.of_eq (pts_u (F := F) d L 4 4#32 rfl (k0_off1_inb L 4) _).symm) $$ Hu4
  ihave He4 := (Entails.of_eq (pts_e (F := F) d L 4 4#32 rfl (k0_off1_inb L 4) _).symm) $$ He4
  ihave Hg4 := (Entails.of_eq (pts_g (F := F) d L 4 4#32 rfl (k0_off1_inb L 4) _).symm) $$ Hg4
  ihave Ho4 := (Entails.of_eq (pts_o (F := F) d L 4 4#32 rfl (k0_off3_inb L 4) _).symm) $$ Ho4
  ihave Hu5 := (Entails.of_eq (pts_u (F := F) d L 5 5#32 rfl (k0_off1_inb L 5) _).symm) $$ Hu5
  ihave He5 := (Entails.of_eq (pts_e (F := F) d L 5 5#32 rfl (k0_off1_inb L 5) _).symm) $$ He5
  ihave Hg5 := (Entails.of_eq (pts_g (F := F) d L 5 5#32 rfl (k0_off1_inb L 5) _).symm) $$ Hg5
  ihave Ho5 := (Entails.of_eq (pts_o (F := F) d L 5 5#32 rfl (k0_off3_inb L 5) _).symm) $$ Ho5
  ihave Hs0 := (Entails.of_eq (show ((V d (cV L) (jV L)).loc cc0_scratch0 ↦{fullShare} f0 : sProp 𝕄) = (priV).view.loc (V d (cV L) (jV L)) ↦{fullShare} f0 from rfl)) $$ Hs0
  ihave Hs1 := (Entails.of_eq (show ((V d (cV L) (jV L)).loc cc0_scratch1 ↦{fullShare} f1 : sProp 𝕄) = (um0).view.loc (V d (cV L) (jV L)) ↦{fullShare} f1 from rfl)) $$ Hs1
  ihave Hs2 := (Entails.of_eq (show ((V d (cV L) (jV L)).loc cc0_scratch2 ↦{fullShare} f2 : sProp 𝕄) = (um1).view.loc (V d (cV L) (jV L)) ↦{fullShare} f2 from rfl)) $$ Hs2
  ihave Hs3 := (Entails.of_eq (show ((V d (cV L) (jV L)).loc cc0_scratch3 ↦{fullShare} f3 : sProp 𝕄) = (ue0).view.loc (V d (cV L) (jV L)) ↦{fullShare} f3 from rfl)) $$ Hs3
  ihave Hs4 := (Entails.of_eq (show ((V d (cV L) (jV L)).loc cc0_scratch4 ↦{fullShare} f4 : sProp 𝕄) = (ue1).view.loc (V d (cV L) (jV L)) ↦{fullShare} f4 from rfl)) $$ Hs4
  ihave Hs5 := (Entails.of_eq (show ((V d (cV L) (jV L)).loc cc0_scratch5 ↦{fullShare} f5 : sProp 𝕄) = (ep0).view.loc (V d (cV L) (jV L)) ↦{fullShare} f5 from rfl)) $$ Hs5
  ihave Hs6 := (Entails.of_eq (show ((V d (cV L) (jV L)).loc cc0_scratch6 ↦{fullShare} f6 : sProp 𝕄) = (ep1).view.loc (V d (cV L) (jV L)) ↦{fullShare} f6 from rfl)) $$ Hs6
  ihave Hs7 := (Entails.of_eq (show ((V d (cV L) (jV L)).loc cc0_scratch7 ↦{fullShare} f7 : sProp 𝕄) = (ou0).view.loc (V d (cV L) (jV L)) ↦{fullShare} f7 from rfl)) $$ Hs7
  ihave Hs8 := (Entails.of_eq (show ((V d (cV L) (jV L)).loc cc0_scratch8 ↦{fullShare} f8 : sProp 𝕄) = (ou1).view.loc (V d (cV L) (jV L)) ↦{fullShare} f8 from rfl)) $$ Hs8
  sl_exec
  ihave Hs0 := (Entails.of_eq (show ((priV).view.loc (V d (cV L) (jV L)) ↦{fullShare} View.write (Elt F) (priV).view f0 (tile_body.sl.dma0 pri) Finset.univ : sProp 𝕄)
      = (priV).view.loc (V d (cV L) (jV L)) ↦{fullShare} pri by rw [View.write_whole_univ]; rfl)) $$ Hs0
  iapply (SparseCore.wp_vectorLoadIdx 𝒱₀ (V d (cV L) (jV L)) none Set.univ (base := priV) (S := Finset.univ) (q := fullShare) (Finset.subset_univ _)) $$ Hs0
  iintro Hs0
  sl_exec
  ihave Hs1 := (Entails.of_eq (wr_1 (F := F) d L _ _)) $$ Hs1
  ihave Hs3 := (Entails.of_eq (wr_3 (F := F) d L _ _)) $$ Hs3
  ihave Hs5 := (Entails.of_eq (wr_5 (F := F) d L _ _)) $$ Hs5
  sl_for (fun k _ => invA d (cV L) (jV L) (th' f0 pri) (rdE m d L 0) (rdG m d L 0) (rdU m d L 0) k) $$ [Hs1 Hs3 Hs5 Hs7]
  case region => intro k _; exact tripA d (cV L) (jV L) (th' f0 pri) (rdE m d L 0) (rdG m d L 0) (rdU m d L 0) k.val (k0_off2 k) (k0_off2_inb k) (k0_off2_eq k)
  · unfold invA
    isplitl [Hs3]; · iexact Hs3
    isplitl [Hs5]; · iexact Hs5
    isplitl [Hs1]; · iexact Hs1
    iexists _; isplitr
    swap; · iexact Hs7
    ipureintro; exact upTo_zero _ _ _ _ _
  iintro %acc HI
  unfold invA
  icases HI with ⟨Hs3, Hs5, Hs1, %h0, %hh0, Hs7⟩
  obtain rfl := upTo_full _ _ _ _ _ trips_1 _ hh0
  sl_exec
  ihave Hs2 := (Entails.of_eq (wr_2 (F := F) d L _ _)) $$ Hs2
  ihave Hs4 := (Entails.of_eq (wr_4 (F := F) d L _ _)) $$ Hs4
  ihave Hs6 := (Entails.of_eq (wr_6 (F := F) d L _ _)) $$ Hs6
  sl_for (fun k _ => invB d (cV L) (jV L) (th' f0 pri) (rdE m d L 1) (rdG m d L 1) (rdU m d L 1) k) $$ [Hs2 Hs4 Hs6 Hs8]
  case region => intro k _; exact tripB d (cV L) (jV L) (th' f0 pri) (rdE m d L 1) (rdG m d L 1) (rdU m d L 1) k.val (k0_off4 k) (k0_off4_inb k) (k0_off4_eq k)
  · unfold invB
    isplitl [Hs4]; · iexact Hs4
    isplitl [Hs6]; · iexact Hs6
    isplitl [Hs2]; · iexact Hs2
    iexists _; isplitr
    swap; · iexact Hs8
    ipureintro; exact upTo_zero _ _ _ _ _
  iintro %acc HI
  unfold invB
  icases HI with ⟨Hs4, Hs6, Hs2, %h1, %hh1, Hs8⟩
  obtain rfl := upTo_full _ _ _ _ _ trips_2 _ hh1
  sl_exec
  ihave Hs1 := (Entails.of_eq (wr_1 (F := F) d L _ _)) $$ Hs1
  ihave Hs3 := (Entails.of_eq (wr_3 (F := F) d L _ _)) $$ Hs3
  ihave Hs5 := (Entails.of_eq (wr_5 (F := F) d L _ _)) $$ Hs5
  sl_for (fun k _ => invA d (cV L) (jV L) (th' f0 pri) (rdE m d L 2) (rdG m d L 2) (rdU m d L 2) k) $$ [Hs1 Hs3 Hs5 Hs7]
  case region => intro k _; exact tripA d (cV L) (jV L) (th' f0 pri) (rdE m d L 2) (rdG m d L 2) (rdU m d L 2) k.val (k0_off5 k) (k0_off5_inb k) (k0_off5_eq k)
  · unfold invA
    isplitl [Hs3]; · iexact Hs3
    isplitl [Hs5]; · iexact Hs5
    isplitl [Hs1]; · iexact Hs1
    iexists _; isplitr
    swap; · iexact Hs7
    ipureintro; exact upTo_zero _ _ _ _ _
  iintro %acc HI
  unfold invA
  icases HI with ⟨Hs3, Hs5, Hs1, %h2, %hh2, Hs7⟩
  obtain rfl := upTo_full _ _ _ _ _ trips_3 _ hh2
  sl_exec
  ihave Hs2 := (Entails.of_eq (wr_2 (F := F) d L _ _)) $$ Hs2
  ihave Hs4 := (Entails.of_eq (wr_4 (F := F) d L _ _)) $$ Hs4
  ihave Hs6 := (Entails.of_eq (wr_6 (F := F) d L _ _)) $$ Hs6
  sl_for (fun k _ => invB d (cV L) (jV L) (th' f0 pri) (rdE m d L 3) (rdG m d L 3) (rdU m d L 3) k) $$ [Hs2 Hs4 Hs6 Hs8]
  case region => intro k _; exact tripB d (cV L) (jV L) (th' f0 pri) (rdE m d L 3) (rdG m d L 3) (rdU m d L 3) k.val (k0_off6 k) (k0_off6_inb k) (k0_off6_eq k)
  · unfold invB
    isplitl [Hs4]; · iexact Hs4
    isplitl [Hs6]; · iexact Hs6
    isplitl [Hs2]; · iexact Hs2
    iexists _; isplitr
    swap; · iexact Hs8
    ipureintro; exact upTo_zero _ _ _ _ _
  iintro %acc HI
  unfold invB
  icases HI with ⟨Hs4, Hs6, Hs2, %h3, %hh3, Hs8⟩
  obtain rfl := upTo_full _ _ _ _ _ trips_4 _ hh3
  sl_exec
  ihave Hs1 := (Entails.of_eq (wr_1 (F := F) d L _ _)) $$ Hs1
  ihave Hs3 := (Entails.of_eq (wr_3 (F := F) d L _ _)) $$ Hs3
  ihave Hs5 := (Entails.of_eq (wr_5 (F := F) d L _ _)) $$ Hs5
  sl_for (fun k _ => invA d (cV L) (jV L) (th' f0 pri) (rdE m d L 4) (rdG m d L 4) (rdU m d L 4) k) $$ [Hs1 Hs3 Hs5 Hs7]
  case region => intro k _; exact tripA d (cV L) (jV L) (th' f0 pri) (rdE m d L 4) (rdG m d L 4) (rdU m d L 4) k.val (k0_off7 k) (k0_off7_inb k) (k0_off7_eq k)
  · unfold invA
    isplitl [Hs3]; · iexact Hs3
    isplitl [Hs5]; · iexact Hs5
    isplitl [Hs1]; · iexact Hs1
    iexists _; isplitr
    swap; · iexact Hs7
    ipureintro; exact upTo_zero _ _ _ _ _
  iintro %acc HI
  unfold invA
  icases HI with ⟨Hs3, Hs5, Hs1, %h4, %hh4, Hs7⟩
  obtain rfl := upTo_full _ _ _ _ _ trips_5 _ hh4
  sl_exec
  ihave Hs2 := (Entails.of_eq (wr_2 (F := F) d L _ _)) $$ Hs2
  ihave Hs4 := (Entails.of_eq (wr_4 (F := F) d L _ _)) $$ Hs4
  ihave Hs6 := (Entails.of_eq (wr_6 (F := F) d L _ _)) $$ Hs6
  sl_for (fun k _ => invB d (cV L) (jV L) (th' f0 pri) (rdE m d L 5) (rdG m d L 5) (rdU m d L 5) k) $$ [Hs2 Hs4 Hs6 Hs8]
  case region => intro k _; exact tripB d (cV L) (jV L) (th' f0 pri) (rdE m d L 5) (rdG m d L 5) (rdU m d L 5) k.val (k0_off8 k) (k0_off8_inb k) (k0_off8_eq k)
  · unfold invB
    isplitl [Hs4]; · iexact Hs4
    isplitl [Hs6]; · iexact Hs6
    isplitl [Hs2]; · iexact Hs2
    iexists _; isplitr
    swap; · iexact Hs8
    ipureintro; exact upTo_zero _ _ _ _ _
  iintro %acc HI
  unfold invB
  icases HI with ⟨Hs4, Hs6, Hs2, %h5, %hh5, Hs8⟩
  obtain rfl := upTo_full _ _ _ _ _ trips_6 _ hh5
  sl_exec
  ihave Hu0 := (Entails.of_eq (pts_u (F := F) d L 0 0#32 rfl (k0_off1_inb L 0) _)) $$ Hu0
  ihave He0 := (Entails.of_eq (pts_e (F := F) d L 0 0#32 rfl (k0_off1_inb L 0) _)) $$ He0
  ihave Hg0 := (Entails.of_eq (pts_g (F := F) d L 0 0#32 rfl (k0_off1_inb L 0) _)) $$ Hg0
  ihave Ho0 := (Entails.of_eq (pts_done m d L 0 0#32 rfl (k0_off3_inb L 0) f0 pri _ (tile_body.sl.dma0_2 m d L pri f0) rfl)) $$ Ho0
  ihave Hu1 := (Entails.of_eq (pts_u (F := F) d L 1 1#32 rfl (k0_off1_inb L 1) _)) $$ Hu1
  ihave He1 := (Entails.of_eq (pts_e (F := F) d L 1 1#32 rfl (k0_off1_inb L 1) _)) $$ He1
  ihave Hg1 := (Entails.of_eq (pts_g (F := F) d L 1 1#32 rfl (k0_off1_inb L 1) _)) $$ Hg1
  ihave Ho1 := (Entails.of_eq (pts_done m d L 1 1#32 rfl (k0_off3_inb L 1) f0 pri _ (tile_body.sl.dma0_3 m d L pri f0) rfl)) $$ Ho1
  ihave Hu2 := (Entails.of_eq (pts_u (F := F) d L 2 2#32 rfl (k0_off1_inb L 2) _)) $$ Hu2
  ihave He2 := (Entails.of_eq (pts_e (F := F) d L 2 2#32 rfl (k0_off1_inb L 2) _)) $$ He2
  ihave Hg2 := (Entails.of_eq (pts_g (F := F) d L 2 2#32 rfl (k0_off1_inb L 2) _)) $$ Hg2
  ihave Ho2 := (Entails.of_eq (pts_done m d L 2 2#32 rfl (k0_off3_inb L 2) f0 pri _ (tile_body.sl.dma0_4 m d L pri f0) rfl)) $$ Ho2
  ihave Hu3 := (Entails.of_eq (pts_u (F := F) d L 3 3#32 rfl (k0_off1_inb L 3) _)) $$ Hu3
  ihave He3 := (Entails.of_eq (pts_e (F := F) d L 3 3#32 rfl (k0_off1_inb L 3) _)) $$ He3
  ihave Hg3 := (Entails.of_eq (pts_g (F := F) d L 3 3#32 rfl (k0_off1_inb L 3) _)) $$ Hg3
  ihave Ho3 := (Entails.of_eq (pts_done m d L 3 3#32 rfl (k0_off3_inb L 3) f0 pri _ (tile_body.sl.dma0_5 m d L pri f0) rfl)) $$ Ho3
  ihave Hu4 := (Entails.of_eq (pts_u (F := F) d L 4 4#32 rfl (k0_off1_inb L 4) _)) $$ Hu4
  ihave He4 := (Entails.of_eq (pts_e (F := F) d L 4 4#32 rfl (k0_off1_inb L 4) _)) $$ He4
  ihave Hg4 := (Entails.of_eq (pts_g (F := F) d L 4 4#32 rfl (k0_off1_inb L 4) _)) $$ Hg4
  ihave Ho4 := (Entails.of_eq (pts_done m d L 4 4#32 rfl (k0_off3_inb L 4) f0 pri _ (tile_body.sl.dma0_6 m d L pri f0) rfl)) $$ Ho4
  ihave Hu5 := (Entails.of_eq (pts_u (F := F) d L 5 5#32 rfl (k0_off1_inb L 5) _)) $$ Hu5
  ihave He5 := (Entails.of_eq (pts_e (F := F) d L 5 5#32 rfl (k0_off1_inb L 5) _)) $$ He5
  ihave Hg5 := (Entails.of_eq (pts_g (F := F) d L 5 5#32 rfl (k0_off1_inb L 5) _)) $$ Hg5
  ihave Ho5 := (Entails.of_eq (pts_done m d L 5 5#32 rfl (k0_off3_inb L 5) f0 pri _ (tile_body.sl.dma0_7 m d L pri f0) rfl)) $$ Ho5
  sl_step
  isplitl [Hp Hu0 He0 Hg0 Ho0 Hu1 He1 Hg1 Ho1 Hu2 He2 Hg2 Ho2 Hu3 He3 Hg3 Ho3 Hu4 He4 Hg4 Ho4 Hu5 He5 Hg5 Ho5]
  · isplitl [Hp]; · iexact Hp
    isplitl [Hu0 He0 Hg0 Ho0]
    · isplitl [Hu0]; · iexact Hu0
      isplitl [He0]; · iexact He0
      isplitl [Hg0]; · iexact Hg0
      iexact Ho0
    isplitl [Hu1 He1 Hg1 Ho1]
    · isplitl [Hu1]; · iexact Hu1
      isplitl [He1]; · iexact He1
      isplitl [Hg1]; · iexact Hg1
      iexact Ho1
    isplitl [Hu2 He2 Hg2 Ho2]
    · isplitl [Hu2]; · iexact Hu2
      isplitl [He2]; · iexact He2
      isplitl [Hg2]; · iexact Hg2
      iexact Ho2
    isplitl [Hu3 He3 Hg3 Ho3]
    · isplitl [Hu3]; · iexact Hu3
      isplitl [He3]; · iexact He3
      isplitl [Hg3]; · iexact Hg3
      iexact Ho3
    isplitl [Hu4 He4 Hg4 Ho4]
    · isplitl [Hu4]; · iexact Hu4
      isplitl [He4]; · iexact He4
      isplitl [Hg4]; · iexact Hg4
      iexact Ho4
    isplitl [Hu5]; · iexact Hu5
    isplitl [He5]; · iexact He5
    isplitl [Hg5]; · iexact Hg5
    iexact Ho5
  isplitl [Hs0 Hs1 Hs2 Hs3 Hs4 Hs5 Hs6 Hs7 Hs8 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    iexact Hbufs
  isplitl [HsemA HsemB HsemC HsemE HsemP Hsems]
  · isplitl [HsemA]; · iexact HsemA
    isplitl [HsemB]; · iexact HsemB
    isplitl [HsemC]; · iexact HsemC
    isplitl [HsemE]; · iexact HsemE
    isplitl [HsemP]; · iexact HsemP
    iexact Hsems
  iexists _; isplitr
  swap; · iexact HO
  ipureintro; intro p hp
  simp only [Finset.mem_insert] at hp
  rcases hp with hp | hp | hp | hp | hp | hp | hp | hp | hp | hp | hp | hp | hp | hp | hp | hp | hp | hp | hp | hp | hp | hp | hp | hp | hp | hp
  on_goal 26 => exact .inl hp
  all_goals exact .inr (hp ▸ rfl)

end Cert.Proof.H

end
-- ==== Proof.H.Obl.lean ====
/- The SparseCore call's operands dealt to its thirty-two tasks and its results gathered from them: the chunks of the inputs are
   disjoint and lie in the last forty-eight rows, the chunks of the result tile it, and every task reads a share of the prior. -/
module

public import proofs.«01_k».proof.Proof.H.Body
public import Idealize.ShloMosaic.Lib.SparseCore.Launch

@[expose] public section

noncomputable section

namespace Cert.Proof.H

open Cert.HybridIdeal Cert.HybridIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-- The task of subcore `s` on core `c`. -/
def coordsV (c : Fin 2) (s : Fin 16) : grid0.Coords :=
  fun | 0 => c | 1 => s | ⟨_ + 2, h⟩ => absurd h (Nat.not_lt.2 (Nat.le_add_left _ _))

/-! ## Where the chunks lie -/

/-- Chunk `r` of a task, counted over the whole call. -/
def chunkNo (L : grid0.Coords) (r : Fin 6) : ℕ := ((L 1).val * 2 + (L 0).val) * 6 + r.val

theorem mem_out (L : grid0.Coords) (r : Fin 6) (i : S48x32768.Idx) :
    i ∈ outSet L r ↔ (i 0).val * 4 + (i 1).val / 8192 = chunkNo L r := by
  obtain ⟨a, b, hb, ha, hab, -, h3⟩ := off_eq L r
  have h0 : (i 0).val < 48 := (i 0).isLt
  have h1 : (i 1).val < 32768 := (i 1).isLt
  have e0 : k0_off3 L (BitVec.ofNat 32 r.val) 0 = a := congrFun h3 0
  have e1 : k0_off3 L (BitVec.ofNat 32 r.val) 1 = b * 8192 := congrFun h3 1
  unfold chunkNo
  rw [← hab]
  constructor
  · intro h
    have h' := Rect.mem_set_unit.mp h
    have q0 := h' 0; have q1 := h' 1
    rw [e0] at q0; rw [e1] at q1
    have q0' : a ≤ (i 0).val ∧ (i 0).val < a + 1 := q0
    have q1' : b * 8192 ≤ (i 1).val ∧ (i 1).val < b * 8192 + 8192 := q1
    omega
  · intro h
    refine Rect.mem_set_unit.mpr fun x => ?_
    match x with
    | ⟨0, _⟩ =>
      show k0_off3 L (BitVec.ofNat 32 r.val) 0 ≤ (i 0).val ∧ (i 0).val < k0_off3 L (BitVec.ofNat 32 r.val) 0 + 1
      rw [e0]; omega
    | ⟨1, _⟩ =>
      show k0_off3 L (BitVec.ofNat 32 r.val) 1 ≤ (i 1).val ∧ (i 1).val < k0_off3 L (BitVec.ofNat 32 r.val) 1 + 8192
      rw [e1]; omega

theorem mem_in (L : grid0.Coords) (r : Fin 6) (i : S128x32768.Idx) (h : i ∈ inSet L r) :
    80 ≤ (i 0).val ∧ ((i 0).val - 80) * 4 + (i 1).val / 8192 = chunkNo L r := by
  obtain ⟨a, b, hb, ha, hab, h3, -⟩ := off_eq L r
  have e0 : k0_off1 L (BitVec.ofNat 32 r.val) 0 = 80 + a := congrFun h3 0
  have e1 : k0_off1 L (BitVec.ofNat 32 r.val) 1 = b * 8192 := congrFun h3 1
  unfold chunkNo
  rw [← hab]
  have h' := Rect.mem_set_unit.mp h
  have q0 := h' 0; have q1 := h' 1
  rw [e0] at q0; rw [e1] at q1
  have q0' : 80 + a ≤ (i 0).val ∧ (i 0).val < 80 + a + 1 := q0
  have q1' : b * 8192 ≤ (i 1).val ∧ (i 1).val < b * 8192 + 8192 := q1
  omega

/-- A core, a subcore and a chunk of its six. -/
abbrev Ch : Type := (Fin 2 × Fin 16) × Fin 6

abbrev inC (t : Ch) : Finset S128x32768.Idx := inSet (coordsV t.1.1 t.1.2) t.2
abbrev outC (t : Ch) : Finset S48x32768.Idx := outSet (coordsV t.1.1 t.1.2) t.2

theorem chunkNo_inj (t t' : Ch) (h : chunkNo (coordsV t.1.1 t.1.2) t.2 = chunkNo (coordsV t'.1.1 t'.1.2) t'.2) : t = t' := by
  obtain ⟨⟨c, s⟩, r⟩ := t; obtain ⟨⟨c', s'⟩, r'⟩ := t'
  have h' : (s.val * 2 + c.val) * 6 + r.val = (s'.val * 2 + c'.val) * 6 + r'.val := h
  have := c.isLt; have := c'.isLt; have := r.isLt; have := r'.isLt
  have e1 : c = c' := Fin.ext (by omega)
  have e2 : s = s' := Fin.ext (by omega)
  have e3 : r = r' := Fin.ext (by omega)
  subst e1; subst e2; subst e3; rfl

theorem outC_disjoint : ∀ t ∈ (Finset.univ : Finset Ch), ∀ t' ∈ (Finset.univ : Finset Ch), t ≠ t' → Disjoint (outC t) (outC t') :=
  fun t _ t' _ h => Finset.disjoint_left.mpr fun i hi hi' => h (chunkNo_inj t t' (((mem_out _ _ i).mp hi).symm.trans ((mem_out _ _ i).mp hi')))

theorem inC_disjoint : ∀ t ∈ (Finset.univ : Finset Ch), ∀ t' ∈ (Finset.univ : Finset Ch), t ≠ t' → Disjoint (inC t) (inC t') :=
  fun t _ t' _ h => Finset.disjoint_left.mpr fun i hi hi' => h (chunkNo_inj t t' ((mem_in _ _ i hi).2.symm.trans (mem_in _ _ i hi').2))

theorem outC_cover : (Finset.univ : Finset Ch).biUnion outC = Finset.univ := by
  ext i
  refine ⟨fun _ => Finset.mem_univ _, fun _ => Finset.mem_biUnion.mpr ?_⟩
  have h0 : (i 0).val < 48 := (i 0).isLt
  have h1 : (i 1).val < 32768 := (i 1).isLt
  refine ⟨((⟨((i 0).val * 4 + (i 1).val / 8192) / 6 % 2, by omega⟩, ⟨((i 0).val * 4 + (i 1).val / 8192) / 12, by omega⟩),
    ⟨((i 0).val * 4 + (i 1).val / 8192) % 6, by omega⟩), Finset.mem_univ _, (mem_out _ _ i).mpr ?_⟩
  show _ = (((i 0).val * 4 + (i 1).val / 8192) / 12 * 2 + ((i 0).val * 4 + (i 1).val / 8192) / 6 % 2) * 6 + ((i 0).val * 4 + (i 1).val / 8192) % 6
  omega

/-- What the call reads of an input. -/
def inAll : Finset S128x32768.Idx := (Finset.univ : Finset Ch).biUnion inC

/-! ## The operands dealt, the results gathered -/

/-- A task's share of the prior. -/
abbrev shP (c : Fin 2) (s : Fin 16) : PosShare TreeShare :=
  Transfers.dealOf fullShare (Finset.univ : Finset (Fin (2 * 16))) (finProdFinEquiv (c, s))

/-- What a task holds, its chunks of the result at `f`. -/
abbrev task (d : Dev nD) (pri : S16.Idx → F .f32) (f : Buf (Elt F) (oLoc d)) (c : Fin 2) (s : Fin 16) : sProp 𝕄 :=
  iprop((pLoc d ↦{shP c s} pri) ∗ parts m d (coordsV c s) f)

/-- What the call holds, the result at `f`. -/
abbrev call (d : Dev nD) (pri : S16.Idx → F .f32) (f : Buf (Elt F) (oLoc d)) : sProp 𝕄 :=
  iprop((pLoc d ↦{fullShare} pri) ∗ (uLoc d ↦[inAll]{fullShare} m (uLoc d)) ∗ (eLoc d ↦[inAll]{fullShare} m (eLoc d))
    ∗ (gLoc d ↦[inAll]{fullShare} m (gLoc d)) ∗ (oLoc d ↦{fullShare} f))

theorem parts_eq (d : Dev nD) (L : grid0.Coords) (f : Buf (Elt F) (oLoc d)) :
    (parts m d L f : sProp 𝕄) = bigSep Finset.univ (part m d L f) :=
  (bigSep_univ_eq_bigSepL [0, 1, 2, 3, 4, 5] (by decide) (by decide) (part m d L f)).symm

theorem pri_deal (d : Dev nD) (pri : S16.Idx → F .f32) :
    (pLoc d ↦{fullShare} pri : sProp 𝕄) = bigSep Finset.univ fun x : Fin 2 × Fin 16 => pLoc d ↦{shP x.1 x.2} pri := by
  rw [Transfers.pointsTo_deal (Finset.univ : Finset (Fin (2 * 16))) ⟨0, Finset.mem_univ _⟩ fullShare,
    bigSep_univ_equiv (finProdFinEquiv (m := 2) (n := 16))]

theorem call_eq (d : Dev nD) (pri : S16.Idx → F .f32) (f : Buf (Elt F) (oLoc d)) :
    (bigSep Finset.univ fun c : Fin 2 => bigSep Finset.univ fun s : Fin 16 => task m d pri f c s) = (call m d pri f : sProp 𝕄) := by
  rw [← bigSep_univ_prod (fun x : Fin 2 × Fin 16 => task m d pri f x.1 x.2), bigSep_sep', ← pri_deal]
  unfold call
  congr 1
  rw [show (bigSep Finset.univ fun x : Fin 2 × Fin 16 => (parts m d (coordsV x.1 x.2) f : sProp 𝕄))
      = bigSep Finset.univ fun x : Fin 2 × Fin 16 => bigSep Finset.univ fun r : Fin 6 => part m d (coordsV x.1 x.2) f r from
    bigSep_congr fun x _ => parts_eq m d _ f,
    ← bigSep_univ_prod (fun t : Ch => part m d (coordsV t.1.1 t.1.2) f t.2), bigSep_sep', bigSep_sep', bigSep_sep']
  unfold inAll
  rw [pointsTo_biUnion (ℓ := uLoc d) Finset.univ inC inC_disjoint, pointsTo_biUnion (ℓ := eLoc d) Finset.univ inC inC_disjoint,
    pointsTo_biUnion (ℓ := gLoc d) Finset.univ inC inC_disjoint, ← pointsTo_biUnion (ℓ := oLoc d) Finset.univ outC outC_disjoint, outC_cover]

/-! ## The handshakes' payloads and the tasks' obligation -/

variable (pri : Dev nD → S16.Idx → F .f32)

/-- What the call leaves in the result. -/
abbrev res (d : Dev nD) : Buf (Elt F) (oLoc d) := scOut (pri d) (m (uLoc d)) (m (eLoc d)) (m (gLoc d))

def P : (K (F := F)).Pay (nD := nD) (Val := Elt F) (Name := ℕ) (U := UU) where
  st q d c := match q with | 0 => bigSep Finset.univ fun s : Fin 16 => task m d (pri d) (m (oLoc d)) c s
  dn q d c := match q with | 0 => bigSep Finset.univ fun s : Fin 16 => task m d (pri d) (res m pri d) c s
  go q d c i := match q with | 0 => task m d (pri d) (m (oLoc d)) c i
  td q d c i := match q with | 0 => task m d (pri d) (res m pri d) c i
  x := fun _ _ => iprop(emp)

theorem part_storable (d : Dev nD) (L : grid0.Coords) (f : Buf (Elt F) (oLoc d)) (r : Fin 6) :
    BI.Storable (upEmb : UEmb _ 𝕄) (part m d L f r) := inferInstance

theorem task_storable (d : Dev nD) (p : S16.Idx → F .f32) (f : Buf (Elt F) (oLoc d)) (c : Fin 2) (s : Fin 16) :
    BI.Storable (upEmb : UEmb _ 𝕄) (task m d p f c s) := by
  have := part_storable m d (coordsV c s) f
  infer_instance

instance P_storable : (P (F := F) m pri).IsStorable where
  st q d c := match q with
    | 0 => have := task_storable m d (pri d) (m (oLoc d)) c
      (inferInstance : BI.Storable (upEmb : UEmb _ 𝕄) (bigSep Finset.univ fun s : Fin 16 => task m d (pri d) (m (oLoc d)) c s))
  dn q d c := match q with
    | 0 => have := task_storable m d (pri d) (res m pri d) c
      (inferInstance : BI.Storable (upEmb : UEmb _ 𝕄) (bigSep Finset.univ fun s : Fin 16 => task m d (pri d) (res m pri d) c s))
  go q d c i := match q with
    | 0 => task_storable m d (pri d) (m (oLoc d)) c i
  td q d c i := match q with
    | 0 => task_storable m d (pri d) (res m pri d) c i

theorem st0_eq (d : Dev nD) : (bigSep Finset.univ fun c : Fin ((K (F := F)).nCore 0) => (P m pri).st 0 d c) = call m d (pri d) (m (oLoc d)) :=
  call_eq m d (pri d) (m (oLoc d))
theorem dn0_eq (d : Dev nD) : (bigSep Finset.univ fun c : Fin ((K (F := F)).nCore 0) => (P m pri).dn 0 d c) = call m d (pri d) (res m pri d) :=
  call_eq m d (pri d) (res m pri d)

theorem vecSplit : (K (F := F)).VecSplit' (P m pri) 0 := by
  intro d c
  show (bigSep Finset.univ fun s : Fin 16 => task m d (pri d) (m (oLoc d)) c s) ⊢ |={Set.univ}=> iprop(
      (bigSep Finset.univ fun s : Fin 16 => task m d (pri d) (m (oLoc d)) c s)
      ∗ ((bigSep Finset.univ fun s : Fin 16 => task m d (pri d) (res m pri d) c s)
          -∗ bigSep Finset.univ fun s : Fin 16 => task m d (pri d) (res m pri d) c s))
  iintro H; imodintro
  isplitl [H]; · iexact H
  iintro H; iexact H

local notation "priH" => (Memref.whole Cert.HybridIdeal.main_v2_scv : Memref Cert.HybridIdeal.sig Kind.scVector Space.hbm Cert.HybridIdeal.S16 EltTy.f32)
local notation "umixH" => (Memref.whole Cert.HybridIdeal.main_arg0_scv : Memref Cert.HybridIdeal.sig Kind.scVector Space.hbm Cert.HybridIdeal.S128x32768 EltTy.f32)
local notation "uexpH" => (Memref.whole Cert.HybridIdeal.main_arg1_scv : Memref Cert.HybridIdeal.sig Kind.scVector Space.hbm Cert.HybridIdeal.S128x32768 EltTy.f32)
local notation "epsH" => (Memref.whole Cert.HybridIdeal.main_arg2_scv : Memref Cert.HybridIdeal.sig Kind.scVector Space.hbm Cert.HybridIdeal.S128x32768 EltTy.f32)
local notation "outH" => (Memref.whole Cert.HybridIdeal.main_v3_scv : Memref Cert.HybridIdeal.sig Kind.scVector Space.hbm Cert.HybridIdeal.S48x32768 EltTy.f32)
local notation "priV" => (Memref.whole Cert.HybridIdeal.cc0_scratch0 : Memref Cert.HybridIdeal.sig Kind.scVector Space.vmem Cert.HybridIdeal.S16 EltTy.f32)
local notation "um0" => (Memref.whole Cert.HybridIdeal.cc0_scratch1 : Memref Cert.HybridIdeal.sig Kind.scVector Space.vmem Cert.HybridIdeal.S8192 EltTy.f32)
local notation "um1" => (Memref.whole Cert.HybridIdeal.cc0_scratch2 : Memref Cert.HybridIdeal.sig Kind.scVector Space.vmem Cert.HybridIdeal.S8192 EltTy.f32)
local notation "ue0" => (Memref.whole Cert.HybridIdeal.cc0_scratch3 : Memref Cert.HybridIdeal.sig Kind.scVector Space.vmem Cert.HybridIdeal.S8192 EltTy.f32)
local notation "ue1" => (Memref.whole Cert.HybridIdeal.cc0_scratch4 : Memref Cert.HybridIdeal.sig Kind.scVector Space.vmem Cert.HybridIdeal.S8192 EltTy.f32)
local notation "ep0" => (Memref.whole Cert.HybridIdeal.cc0_scratch5 : Memref Cert.HybridIdeal.sig Kind.scVector Space.vmem Cert.HybridIdeal.S8192 EltTy.f32)
local notation "ep1" => (Memref.whole Cert.HybridIdeal.cc0_scratch6 : Memref Cert.HybridIdeal.sig Kind.scVector Space.vmem Cert.HybridIdeal.S8192 EltTy.f32)
local notation "ou0" => (Memref.whole Cert.HybridIdeal.cc0_scratch7 : Memref Cert.HybridIdeal.sig Kind.scVector Space.vmem Cert.HybridIdeal.S8192 EltTy.f32)
local notation "ou1" => (Memref.whole Cert.HybridIdeal.cc0_scratch8 : Memref Cert.HybridIdeal.sig Kind.scVector Space.vmem Cert.HybridIdeal.S8192 EltTy.f32)

theorem defs₀_vector (c : Fin τ.nSC) (s : Fin τ.nSub) :
    defs₀ (F := F) (.scVector c s) 0 ()
      = SparseCore.onTile hcore0 hsub0 (fun c s => cc0__sc_body (coordsV c s)
          priH (Memref.isWhole_whole _) umixH (Memref.isWhole_whole _) uexpH (Memref.isWhole_whole _) epsH (Memref.isWhole_whole _) outH (Memref.isWhole_whole _)
            priV (Memref.isWhole_whole _) um0 (Memref.isWhole_whole _) um1 (Memref.isWhole_whole _) ue0 (Memref.isWhole_whole _) ue1 (Memref.isWhole_whole _) ep0 (Memref.isWhole_whole _) ep1 (Memref.isWhole_whole _) ou0 (Memref.isWhole_whole _) ou1 (Memref.isWhole_whole _) cc0_scratch9 cc0_scratch10 cc0_scratch11 cc0_scratch12 cc0_scoped0) ⟨⟩ c s := rfl

/-- The task's post in the form the launch theorem asks. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m pri) v₀ 0 := by
  intro d c i O W hO _ _
  simp only [show (P m pri).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) (pri d) (shP c i) hF O W hO trivial trivial).trans
    (wp_mono frame _ _ fun _ => obl_post)

end Cert.Proof.H

end
-- ==== Proof.H.Main.lean ====
/- The two-core program's TensorCore: @main's host operations, the SparseCore call, the TensorCore call as a region, and the
   update that joins the two calls' results; then the run of the whole program at any float values. -/
module

public import proofs.«01_k».proof.Proof.H.Obl
public import proofs.«01_k».proof.Proof.Gen.Own.HybridIdeal.Calls

@[expose] public section

noncomputable section

namespace Cert.Proof.H

open Cert.HybridIdeal Cert.HybridIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state: the handshakes' rounds, and the TensorCore call's staging cells' -/

abbrev adm : (p : Fin 1) → (pcfgs (F := F) p).Adm := fun p => (cfgs p).toPCfg_adm

/-- The staging cells' component. -/
def EP : Emb (UR sig nD τ) (MT nD τ sig (HIx 1) (Elt F) ℕ UU ℕ) :=
  (Emb.inl : Emb (UR sig nD τ) (UR sig nD τ × Counters)).trans embR

instance EP_landsIn : (EP : Emb (UR sig nD τ) 𝕄).LandsIn (upEmb : UEmb _ 𝕄) := by unfold EP; infer_instance

def uP : UR sig nD τ :=
  initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (uP (F := F), 1))

/-- What the launch deals core `d` for the TensorCore call. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ (pri : Dev nD → S16.Idx → F .f32) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m pri).x q thr) := by
  unfold u₀
  iintro Hu
  ihave H := (ownU_pair (initOf (K (F := F)).hsCells (K (F := F)).hsToks) ((uP (F := F), (1 : Counters)))) $$ Hu
  icases H with ⟨HH, HR⟩
  ihave HR' := (own_pair_emb (embR : Emb (UR sig nD τ × Counters) 𝕄) (uP (F := F)) (1 : Counters)) $$ HR
  icases HR' with ⟨HP, -⟩
  ihave HP' := (show (BI.own (((Emb.inl : Emb (UR sig nD τ) (UR sig nD τ × Counters)).trans (embR : Emb (UR sig nD τ × Counters) 𝕄)) (uP (F := F))) : sProp 𝕄)
      ⊢ BI.own ((EP (F := F)) (initOf (Pipeline.cells (Pipeline.pin (pcfgs (F := F)) adm) cellOf_inj) (Pipeline.launchToks (Pipeline.pin (pcfgs (F := F)) adm) cellOf_inj)))
      from BI.Entails.refl _) $$ HP
  imod (Pipeline.fund_ghost (Pipeline.pin (pcfgs (F := F)) adm) (EP (F := F)) cellOf_inj) $$ HP' with ⟨Hg, Ht⟩
  imodintro
  isplitl [HH]; · iexact HH
  isplitl [Hg Ht]
  · rw [bigSep_sep']
    isplitl [Hg]
    · iapply (Entails.of_eq (bigSep_congr fun (d : Dev nD) _ => bigSep_univ_of_subsingleton (Φ := fun p : Fin 1 =>
        (Pipeline.cellsGhost (Pipeline.pin (pcfgs (F := F)) adm) EP p d : sProp 𝕄)) (0 : Fin 1))); iexact Hg
    · iapply (Entails.of_eq (bigSep_congr fun (d : Dev nD) _ => bigSep_univ_of_subsingleton (Φ := fun p : Fin 1 =>
        (Pipeline.toksInit (Pipeline.pin (pcfgs (F := F)) adm) EP p d : sProp 𝕄)) (0 : Fin 1))); iexact Ht
  rw [show (bigSep Finset.univ fun thr : Thread nD τ => bigSep Finset.univ fun q : Fin 1 => (P m pri).x q thr) = bigSep Finset.univ fun _ => iprop(emp) from
    bigSep_congr fun _ _ => bigSep_univ_of_subsingleton (0 : Fin 1), bigSep_emp']
  iempintro

/-! ## The TensorCore call -/

/-- A buffer of core `d`, whole, spelt at the location. -/
abbrev pl (d : Dev nD) (b : Ref sig .tc) (f : b.ty.Contents (Elt F)) : sProp 𝕄 := ((d : Thread nD τ).loc b) ↦{fullShare} f

/-- The launch memory as the call's entry contents. -/
abbrev Vm : Fin 1 → (c : Dev nD) → (b : Ref sig .tc) → Buf (Elt F) ((c : Thread nD τ).loc b) := fun _ c b => m ((c : Thread nD τ).loc b)

abbrev pdats : (p : Fin 1) → (c : Dev nD) → Pipeline.Dat τ (Elt F) (HIx 1) ℕ UU ℕ (Pipeline.pin (pcfgs (F := F)) adm p) c :=
  Own.pdats 𝒱₀ (Vm m) (fun _ _ => 0) adm

theorem cut : Own.Cut1 (F := F) (fun _ _ => 0) (none : HIx 1) adm (K (F := F)).L (K (F := F)).lev 0 :=
  ⟨fun _ _ _ => Finset.mem_univ _, fun _ _ _ => le_refl _, fun _ _ _ hg => absurd hg (lt_irrefl _)⟩

def reg : Pipeline.RegionSeg (pcfgs (F := F)) adm (pdats m) (none : HIx 1) defs₀ 𝒱₀ (K (F := F)).L (K (F := F)).lev 0 :=
  Own.regArr1 𝒱₀ (Vm m) (fun _ _ => 0) none adm (K (F := F)).L (K (F := F)).lev 0 cut (fun _ => iprop(emp))

/-- What the call's result holds after it. -/
abbrev tcOut (d : Dev nD) : Buf (Elt F) ((d : Thread nD τ).loc main_v4) := (pdats m 0 d).arrAt 4 (Pipeline.pin (pcfgs (F := F)) adm 0).N

theorem arrays_eq (c : Dev nD) (Fa) : ((pdats m 0 c).arrays Fa : sProp 𝕄)
    = iprop(pl c main_arg3 (Fa 0) ∗ pl c main_arg0 (Fa 1) ∗ pl c main_arg1 (Fa 2) ∗ pl c main_arg2 (Fa 3) ∗ pl c main_v4 (Fa 4)) := by
  rw [Pipeline.arrays_eq (Pipeline.pin (pcfgs (F := F)) adm) (pdats m) 0 c launch1.arr_whole ((pdats m 0 c).share_full fun _ => rfl) Fa, bigSep_W1]

theorem pre_eq (c : Dev nD) : ((pdats m 0 c).arrays ((pdats m 0 c).arrAt · 0) : sProp 𝕄)
    = iprop(pl c main_arg3 (m ((c : Thread nD τ).loc main_arg3)) ∗ pl c main_arg0 (m ((c : Thread nD τ).loc main_arg0))
      ∗ pl c main_arg1 (m ((c : Thread nD τ).loc main_arg1)) ∗ pl c main_arg2 (m ((c : Thread nD τ).loc main_arg2)) ∗ pl c main_v4 (m ((c : Thread nD τ).loc main_v4))) := by
  rw [arrays_eq]; rfl

theorem post_eq (c : Dev nD) : ((pdats m 0 c).arrays ((pdats m 0 c).arrAt · (Pipeline.pin (pcfgs (F := F)) adm 0).N) : sProp 𝕄)
    = iprop(pl c main_arg3 (m ((c : Thread nD τ).loc main_arg3)) ∗ pl c main_arg0 (m ((c : Thread nD τ).loc main_arg0))
      ∗ pl c main_arg1 (m ((c : Thread nD τ).loc main_arg1)) ∗ pl c main_arg2 (m ((c : Thread nD τ).loc main_arg2)) ∗ pl c main_v4 (tcOut m c)) := by
  rw [arrays_eq, (pdats m 0 c).arrAt_in 0 rfl _, (pdats m 0 c).arrAt_in 1 rfl _, (pdats m 0 c).arrAt_in 2 rfl _, (pdats m 0 c).arrAt_in 3 rfl _]
  rfl

/-- The call's statement, and the same statement of the program without the SparseCore call. -/
abbrev tcCall : Prog (TpuEff nD τ sig (Elt F) (SparseCore.Sig (ΛP (F := F)) 1) .tc) PUnit :=
  Prog.lift (.customCall (SparseCore.inner (Pipeline.entry 0)) ())
abbrev tcCall₀ : Prog (TpuEff nD τ sig (Elt F) (ΛP (F := F)) .tc) PUnit :=
  .op (.customCall (Pipeline.entry 0) ()) fun _ => .ret ⟨⟩
theorem tcCall_eq : tcCall (F := F) = SparseCore.liftProg (tcCall₀ (F := F)) := rfl

/-- The region's step in the program with the SparseCore call. -/
theorem region [∀ e, Nonempty (Elt F e)] (d : Dev nD) (Q : PUnit → sProp 𝕄) :
    iprop((iprop(boundary (T d) ∗ (pdats m 0 d).arrays ((pdats m 0 d).arrAt · (Pipeline.pin (pcfgs (F := F)) adm 0).N)
              ∗ ∃ W, owes (T d) 0 W) -∗ Q ⟨⟩)
        ∗ boundary (T d) ∗ (pdats m 0 d).arrays ((pdats m 0 d).arrAt · 0) ∗ (∃ r, prngReg d r) ∗ (∃ W, owes (T d) 0 W)
        ∗ levAts (K (F := F)).L (K (F := F)).lev ∗ G d)
      ⊢ wp frame (wpE ((K (F := F)).defs (D (F := F))) 𝒱 (T d) none) Set.univ
          (tcCall (F := F)) Q := by
  rw [tcCall_eq]
  refine BIBase.Entails.trans ?_ ((K (F := F)).wp_liftProg (D (F := F)) 𝒱 (T d) Set.univ none (tcCall₀ (F := F)) Q)
  have h := Pipeline.RegionSeg.wp (pcfgs (F := F)) adm (pdats m) (none : HIx 1) cellOf_inj (EP (F := F)) defs₀ 𝒱₀ (K (F := F)).L (K (F := F)).lev (reg m) d none
    (fun _ h => nomatch h) (fun _ => .ret ⟨⟩) Q
  refine BIBase.Entails.trans ?_ h
  show _ ⊢ iprop((iprop(boundary (T d) ∗ ((pdats m 0 d).arrays ((pdats m 0 d).arrAt · (Pipeline.pin (pcfgs (F := F)) adm 0).N)
        ∗ (∃ r, prngReg d r) ∗ emp ∗ ∃ W, owes (T d) 0 W))
      -∗ wp frame (wpE (D (F := F)) 𝒱 (T d) none) Set.univ (Prog.ret (⟨⟩ : PUnit)) Q)
    ∗ boundary (T d) ∗ ((pdats m 0 d).arrays ((pdats m 0 d).arrAt · 0) ∗ (∃ r, prngReg d r) ∗ emp ∗ ∃ W, owes (T d) 0 W)
    ∗ levAts (K (F := F)).L (K (F := F)).lev ∗ G d)
  iintro ⟨Hk, Hb, Ha, Hp, HO, #Hl, HG⟩
  isplitl [Hk]
  · iintro ⟨Hb, Ha, -, -, HO⟩
    rw [wp_ret]; imodintro
    iapply Hk
    isplitl [Hb]; · iexact Hb
    isplitl [Ha]; · iexact Ha
    iexact HO
  isplitl [Hb]; · iexact Hb
  isplitl [Ha Hp HO]
  · isplitl [Ha]; · iexact Ha
    isplitl [Hp]; · iexact Hp
    isplitr; · iempintro
    iexact HO
  isplitr; · iexact Hl
  iexact HG

/-! ## @main's buffers through the program -/

abbrev op0 : HloOp τ sig (Elt F) := StableHlo.reshape main_arg3 main_v0 (rfl : (.f32 : EltTy) = .f32) shapeCasts_S2_S1x2
abbrev op1 : HloOp τ sig (Elt F) := StableHlo.unary main_v0 main_v1
  (broadcastInDim S8x2 ![0, 1] bcast_S1x2_S8x2_0_1 : (⟨S1x2, .f32⟩ : BufTy).Contents (Elt F) → (⟨S8x2, .f32⟩ : BufTy).Contents (Elt F))
abbrev op2 : HloOp τ sig (Elt F) := StableHlo.reshape main_v1 main_v2 (rfl : (.f32 : EltTy) = .f32) shapeCasts_S8x2_S16
abbrev op3 : HloOp τ sig (Elt F) := StableHlo.nullary main_c (constantI S_ 32 80#32)
abbrev op4 : HloOp τ sig (Elt F) := StableHlo.nullary main_c_0 (constantI S_ 32 0#32)
abbrev op5 : HloOp τ sig (Elt F) := StableHlo.binaryIndexed main_v4 main_v3 ![main_c, main_c_0] ⟨S_, .i32⟩ main_v5
  ((fun x u i => Host.dynamicUpdateSlice x u (fun k => (i k (Shape.Idx.first h_S_)).toInt) updateFits_S128x32768_S48x32768) :
    (⟨S128x32768, .f32⟩ : BufTy).Contents (Elt F) → (⟨S48x32768, .f32⟩ : BufTy).Contents (Elt F) → (Fin 2 → (⟨S_, .i32⟩ : BufTy).Contents (Elt F))
      → (⟨S128x32768, .f32⟩ : BufTy).Contents (Elt F))

/-- At launch, and before the SparseCore call. -/
abbrev V0 (d : Dev nD) : Valuation τ sig (Elt F) := fun b => m (d, b)
def V1 (d : Dev nD) : Valuation τ sig (Elt F) := op2.result (op1.result (op0.result (V0 m d)))

/-- What the SparseCore call takes as the prior. -/
def pri (d : Dev nD) : S16.Idx → F .f32 := V1 m d (Proc.devRef .tc main_v2)

/-- After the two calls, and at the end. -/
def V2 (d : Dev nD) : Valuation τ sig (Elt F) :=
  Function.update (Function.update (V1 m d) (Proc.devRef .tc main_v3) (res m (pri m) d)) (Proc.devRef .tc main_v4) (tcOut m d)
def V3 (d : Dev nD) : Valuation τ sig (Elt F) := op5.result (op4.result (op3.result (V2 m d)))

theorem V1_ne (d : Dev nD) (r : Ref sig .tc) (h0 : r ≠ main_v0) (h1 : r ≠ main_v1) (h2 : r ≠ main_v2) :
    V1 m d (Proc.devRef .tc r) = m ((d : Thread nD τ).loc r) := by
  unfold V1
  rw [StableHlo.reshape_result_ne (h := h2), StableHlo.unary_result_ne (h := h1), StableHlo.reshape_result_ne (h := h0)]

theorem V2_ne (d : Dev nD) (r : Ref sig .tc) (h3 : r ≠ main_v3) (h4 : r ≠ main_v4) :
    V2 m d (Proc.devRef .tc r) = V1 m d (Proc.devRef .tc r) := by
  unfold V2
  rw [Function.update_of_ne (StableHlo.devRef_ne_of_ne h4), Function.update_of_ne (StableHlo.devRef_ne_of_ne h3)]

theorem V2_v3 (d : Dev nD) : V2 m d (Proc.devRef .tc main_v3) = res m (pri m) d := by
  unfold V2
  rw [Function.update_of_ne (StableHlo.devRef_ne_of_ne (by decide)), Function.update_self]

theorem V2_v4 (d : Dev nD) : V2 m d (Proc.devRef .tc main_v4) = tcOut m d := by
  unfold V2
  rw [Function.update_self]

theorem V3_ne (d : Dev nD) (r : Ref sig .tc) (h3 : r ≠ main_c) (h4 : r ≠ main_c_0) (h5 : r ≠ main_v5) :
    V3 m d (Proc.devRef .tc r) = V2 m d (Proc.devRef .tc r) := by
  unfold V3
  rw [StableHlo.binaryIndexed_result_ne (h := h5), StableHlo.nullary_result_ne (h := h4), StableHlo.nullary_result_ne (h := h3)]

/-- @main's buffers. -/
def Sall : Finset (DevRef τ sig) :=
  {Proc.devRef .tc main_arg0, Proc.devRef .tc main_arg1, Proc.devRef .tc main_arg2, Proc.devRef .tc main_arg3, Proc.devRef .tc main_v0,
    Proc.devRef .tc main_v1, Proc.devRef .tc main_v2, Proc.devRef .tc main_v3, Proc.devRef .tc main_v4, Proc.devRef .tc main_c,
    Proc.devRef .tc main_c_0, Proc.devRef .tc main_v5}

theorem held_eq (d : Dev nD) (W : Valuation τ sig (Elt F)) :
    (StableHlo.held (d : Thread nD τ) Sall W : sProp 𝕄)
      = iprop(pl d main_arg0 (W (Proc.devRef .tc main_arg0)) ∗ pl d main_arg1 (W (Proc.devRef .tc main_arg1)) ∗ pl d main_arg2 (W (Proc.devRef .tc main_arg2))
          ∗ pl d main_arg3 (W (Proc.devRef .tc main_arg3)) ∗ pl d main_v0 (W (Proc.devRef .tc main_v0)) ∗ pl d main_v1 (W (Proc.devRef .tc main_v1))
          ∗ pl d main_v2 (W (Proc.devRef .tc main_v2)) ∗ pl d main_v3 (W (Proc.devRef .tc main_v3)) ∗ pl d main_v4 (W (Proc.devRef .tc main_v4))
          ∗ pl d main_c (W (Proc.devRef .tc main_c)) ∗ pl d main_c_0 (W (Proc.devRef .tc main_c_0)) ∗ pl d main_v5 (W (Proc.devRef .tc main_v5))) := by
  unfold StableHlo.held Sall
  rw [bigSep_eq_bigSepL_of_eq [Proc.devRef .tc main_arg0, Proc.devRef .tc main_arg1, Proc.devRef .tc main_arg2, Proc.devRef .tc main_arg3, Proc.devRef .tc main_v0,
    Proc.devRef .tc main_v1, Proc.devRef .tc main_v2, Proc.devRef .tc main_v3, Proc.devRef .tc main_v4, Proc.devRef .tc main_c,
    Proc.devRef .tc main_c_0, Proc.devRef .tc main_v5] (by decide) (by decide)]
  rfl

theorem unscopedBufs_eq (d : Dev nD) :
    (unscopedBufs d (fun b => m ((d : Thread nD τ).loc b)) : sProp 𝕄) = StableHlo.held (d : Thread nD τ) Sall (V0 m d) := by
  rw [held_eq]
  unfold unscopedBufs
  rw [bigSep_eq_bigSepL_of_eq [main_arg0, main_arg1, main_arg2, main_arg3, main_v0, main_v1, main_v2, main_v3, main_v4, main_c, main_c_0, main_v5]
    (by decide) (by decide)]
  rfl

/-! ## The pieces of @main -/

set_option backward.isDefEq.respectTransparency.types false in
theorem host {op : HloOp τ sig (Elt F)} (hS : op.bufs ⊆ Sall) (hf : op.fresh = ∅) (d : Dev nD) (V : Valuation τ sig (Elt F)) (Q : PUnit → sProp 𝕄) :
    iprop((boundary (T d) ∗ StableHlo.held (T d) Sall V) ∗ ((boundary (T d) ∗ StableHlo.held (T d) Sall (op.result V)) -∗ Q ⟨⟩))
      ⊢ wp frame (wpE ((K (F := F)).defs (D (F := F))) 𝒱 (T d) none) Set.univ (hlo rfl op (fun _ => .ret ⟨⟩)) Q := by
  iintro ⟨H, Hk⟩
  iapply (StableHlo.wp_hlo_within 𝒱 (T d) none Set.univ (op := op) (V := V) hS hf) $$ [H]
  · iexact H
  iintro H
  rw [wp_ret]; imodintro
  iapply Hk
  iexact H

theorem wbelow (d : Dev nD) (W : Waits sig (HIx 1)) (b : ℕ) (hb : 7 ≤ b) : (K (F := F)).WBelow (T d) W b := by
  intro p _
  rcases p.2 with _ | q
  · exact Nat.zero_le _
  · have := (K (F := F)).lev_some_le (T d, p.1) q
    omega

theorem host_bufs0 : (op0 (F := F)).bufs ⊆ Sall := by rw [StableHlo.reshape_bufs]; decide
theorem host_bufs1 : (op1 (F := F)).bufs ⊆ Sall := by rw [StableHlo.unary_bufs]; decide
theorem host_bufs2 : (op2 (F := F)).bufs ⊆ Sall := by rw [StableHlo.reshape_bufs]; decide
theorem host_bufs3 : (op3 (F := F)).bufs ⊆ Sall := by rw [StableHlo.nullary_bufs]; decide
theorem host_bufs4 : (op4 (F := F)).bufs ⊆ Sall := by rw [StableHlo.nullary_bufs]; decide
theorem host_bufs5 : (op5 (F := F)).bufs ⊆ Sall := by
  show insert (Proc.devRef .tc main_v4) (insert (Proc.devRef .tc main_v3) (insert (Proc.devRef .tc main_v5)
    (Finset.univ.image fun k : Fin 2 => Proc.devRef .tc ((![main_c, main_c_0] : Fin 2 → Ref sig .tc) k)))) ⊆ Sall
  decide

abbrev FIN (d : Dev nD) : sProp 𝕄 :=
  iprop(pl d main_arg0 (m ((d : Thread nD τ).loc main_arg0)) ∗ pl d main_arg1 (m ((d : Thread nD τ).loc main_arg1))
    ∗ pl d main_arg2 (m ((d : Thread nD τ).loc main_arg2)) ∗ pl d main_arg3 (m ((d : Thread nD τ).loc main_arg3))
    ∗ pl d main_v5 (V3 m d (Proc.devRef .tc main_v5)))

theorem held_before (d : Dev nD) : (StableHlo.held (T d) Sall (V1 m d) : sProp 𝕄)
      = iprop((uLoc d ↦{fullShare} m (uLoc d)) ∗ (eLoc d ↦{fullShare} m (eLoc d)) ∗ (gLoc d ↦{fullShare} m (gLoc d))
          ∗ pl d main_arg3 (m ((d : Thread nD τ).loc main_arg3)) ∗ pl d main_v0 (V1 m d (Proc.devRef .tc main_v0)) ∗ pl d main_v1 (V1 m d (Proc.devRef .tc main_v1))
          ∗ (pLoc d ↦{fullShare} pri m d) ∗ (oLoc d ↦{fullShare} m (oLoc d)) ∗ pl d main_v4 (m ((d : Thread nD τ).loc main_v4))
          ∗ pl d main_c (V1 m d (Proc.devRef .tc main_c)) ∗ pl d main_c_0 (V1 m d (Proc.devRef .tc main_c_0)) ∗ pl d main_v5 (V1 m d (Proc.devRef .tc main_v5))) := by
  refine (held_eq d (V1 m d)).trans ?_
  rw [V1_ne m d main_arg0 (by decide) (by decide) (by decide), V1_ne m d main_arg1 (by decide) (by decide) (by decide),
    V1_ne m d main_arg2 (by decide) (by decide) (by decide), V1_ne m d main_arg3 (by decide) (by decide) (by decide),
    V1_ne m d main_v3 (by decide) (by decide) (by decide), V1_ne m d main_v4 (by decide) (by decide) (by decide)]
  rfl

theorem held_after (d : Dev nD) : (StableHlo.held (T d) Sall (V2 m d) : sProp 𝕄)
      = iprop((uLoc d ↦{fullShare} m (uLoc d)) ∗ (eLoc d ↦{fullShare} m (eLoc d)) ∗ (gLoc d ↦{fullShare} m (gLoc d))
          ∗ pl d main_arg3 (m ((d : Thread nD τ).loc main_arg3)) ∗ pl d main_v0 (V1 m d (Proc.devRef .tc main_v0)) ∗ pl d main_v1 (V1 m d (Proc.devRef .tc main_v1))
          ∗ (pLoc d ↦{fullShare} pri m d) ∗ (oLoc d ↦{fullShare} res m (pri m) d) ∗ pl d main_v4 (tcOut m d)
          ∗ pl d main_c (V1 m d (Proc.devRef .tc main_c)) ∗ pl d main_c_0 (V1 m d (Proc.devRef .tc main_c_0)) ∗ pl d main_v5 (V1 m d (Proc.devRef .tc main_v5))) := by
  refine (held_eq d (V2 m d)).trans ?_
  rw [V2_v3, V2_v4, V2_ne m d main_arg0 (by decide) (by decide), V2_ne m d main_arg1 (by decide) (by decide),
    V2_ne m d main_arg2 (by decide) (by decide), V2_ne m d main_arg3 (by decide) (by decide),
    V2_ne m d main_v0 (by decide) (by decide), V2_ne m d main_v1 (by decide) (by decide), V2_ne m d main_v2 (by decide) (by decide),
    V2_ne m d main_c (by decide) (by decide), V2_ne m d main_c_0 (by decide) (by decide), V2_ne m d main_v5 (by decide) (by decide),
    V1_ne m d main_arg0 (by decide) (by decide) (by decide), V1_ne m d main_arg1 (by decide) (by decide) (by decide),
    V1_ne m d main_arg2 (by decide) (by decide) (by decide), V1_ne m d main_arg3 (by decide) (by decide) (by decide)]
  rfl

theorem held_end (d : Dev nD) : (StableHlo.held (T d) Sall (V3 m d) : sProp 𝕄) ⊢ FIN m d := by
  refine BIBase.Entails.trans (Entails.of_eq (held_eq d (V3 m d))) ?_
  rw [V3_ne m d main_arg0 (by decide) (by decide) (by decide), V3_ne m d main_arg1 (by decide) (by decide) (by decide),
    V3_ne m d main_arg2 (by decide) (by decide) (by decide), V3_ne m d main_arg3 (by decide) (by decide) (by decide),
    V2_ne m d main_arg0 (by decide) (by decide), V2_ne m d main_arg1 (by decide) (by decide),
    V2_ne m d main_arg2 (by decide) (by decide), V2_ne m d main_arg3 (by decide) (by decide),
    V1_ne m d main_arg0 (by decide) (by decide) (by decide), V1_ne m d main_arg1 (by decide) (by decide) (by decide),
    V1_ne m d main_arg2 (by decide) (by decide) (by decide), V1_ne m d main_arg3 (by decide) (by decide) (by decide)]
  iintro ⟨H0, H1, H2, H3, -, -, -, -, -, -, -, H5⟩
  isplitl [H0]; · iexact H0
  isplitl [H1]; · iexact H1
  isplitl [H2]; · iexact H2
  isplitl [H3]; · iexact H3
  iexact H5

theorem split_u (d : Dev nD) (f : Buf (Elt F) (uLoc d)) : ((uLoc d ↦{fullShare} f) : sProp 𝕄)
    ⊣⊢ iprop((uLoc d ↦[inAll]{fullShare} f) ∗ uLoc d ↦[Finset.univ \ inAll]{fullShare} f) :=
  pointsTo_split_subset (ℓ := uLoc d) (I := inAll) (S := Finset.univ) (Finset.subset_univ inAll)
theorem split_e (d : Dev nD) (f : Buf (Elt F) (eLoc d)) : ((eLoc d ↦{fullShare} f) : sProp 𝕄)
    ⊣⊢ iprop((eLoc d ↦[inAll]{fullShare} f) ∗ eLoc d ↦[Finset.univ \ inAll]{fullShare} f) :=
  pointsTo_split_subset (ℓ := eLoc d) (I := inAll) (S := Finset.univ) (Finset.subset_univ inAll)
theorem split_g (d : Dev nD) (f : Buf (Elt F) (gLoc d)) : ((gLoc d ↦{fullShare} f) : sProp 𝕄)
    ⊣⊢ iprop((gLoc d ↦[inAll]{fullShare} f) ∗ gLoc d ↦[Finset.univ \ inAll]{fullShare} f) :=
  pointsTo_split_subset (ℓ := gLoc d) (I := inAll) (S := Finset.univ) (Finset.subset_univ inAll)

set_option backward.isDefEq.respectTransparency.types false in
theorem hmain [∀ e, Nonempty (Elt F e)] (κ : GSem nD τ sig → ℕ) (d : Dev nD) :
    iprop((K (F := F)).ctx EH (P m (pri m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hh, Hts, Hprng⟩, HG⟩
  iapply (host host_bufs0 rfl d (V0 m d) _)
  isplitl [Hb Hh]
  · isplitl [Hb] <;> iassumption
  iintro H
  iapply (host host_bufs1 rfl d _ _)
  isplitl [H]; · iexact H
  iintro H
  iapply (host host_bufs2 rfl d _ _)
  isplitl [H]; · iexact H
  iintro ⟨Hb, Hh⟩
  ihave Hh := (show (StableHlo.held (T d) Sall (op2.result (op1.result (op0.result (V0 m d)))) : sProp 𝕄) ⊢ _ from Entails.of_eq (held_before m d)) $$ Hh
  icases Hh with ⟨Hu, He, Hg, H3, Hv0, Hv1, Hp, Ho, Hv4, Hc, Hc0, Hv5⟩
  ihave Hu := (split_u d (m (uLoc d))).1 $$ Hu
  icases Hu with ⟨Hu, Hu'⟩
  ihave He := (split_e d (m (eLoc d))).1 $$ He
  icases He with ⟨He, He'⟩
  ihave Hg := (split_g d (m (gLoc d))).1 $$ Hg
  icases Hg with ⟨Hg, Hg'⟩
  iapply ((K (F := F)).wp_run (D (F := F)) 𝒱 (EH := EH) (P := P m (pri m)) κ d 0) $$ [-]
  isplitr; · iexact Hctx
  isplitl [Hst]; · iexact Hst
  isplitl [Hp Hu He Hg Ho]
  · rw [st0_eq]
    unfold call
    isplitl [Hp]; · iexact Hp
    isplitl [Hu]; · iexact Hu
    isplitl [He]; · iexact He
    isplitl [Hg]; · iexact Hg
    iexact Ho
  iintro ⟨Hst, Hdn⟩
  ihave Hdn := (Entails.of_eq (dn0_eq m (pri m) d)) $$ Hdn
  unfold call
  icases Hdn with ⟨Hp, Hu, He, Hg, Ho⟩
  ihave Hu := (split_u d (m (uLoc d))).2 $$ [Hu Hu']
  · isplitl [Hu] <;> iassumption
  ihave He := (split_e d (m (eLoc d))).2 $$ [He He']
  · isplitl [He] <;> iassumption
  ihave Hg := (split_g d (m (gLoc d))).2 $$ [Hg Hg']
  · isplitl [Hg] <;> iassumption
  unfold SparseCore.Cfg.tcSt
  icases Hst with ⟨⟨%W, -, HO⟩, Hst⟩
  rw [(K (F := F)).Otc_end (N := 1) d (n := (0 : Fin 1).val + 1) (le_refl _), (K (F := F)).Otc_end (N := 1) d (n := 1) (le_refl _)]
  ihave #Hlev := (SparseCore.Cfg.ctx_levAts κ) $$ Hctx
  iapply (region m d _)
  isplitl [Hst Hts Hv0 Hv1 Hp Ho Hc Hc0 Hv5]
  · iintro ⟨Hb, Ha, HO⟩
    ihave Ha := (Entails.of_eq (post_eq m d)) $$ Ha
    icases Ha with ⟨H3, Hu, He, Hg, Hv4⟩
    ihave Hh := (Entails.of_eq (held_after m d).symm) $$ [H3 Hu He Hg Hv4 Hv0 Hv1 Hp Ho Hc Hc0 Hv5]
    · isplitl [Hu]; · iexact Hu
      isplitl [He]; · iexact He
      isplitl [Hg]; · iexact Hg
      isplitl [H3]; · iexact H3
      isplitl [Hv0]; · iexact Hv0
      isplitl [Hv1]; · iexact Hv1
      isplitl [Hp]; · iexact Hp
      isplitl [Ho]; · iexact Ho
      isplitl [Hv4]; · iexact Hv4
      isplitl [Hc]; · iexact Hc
      isplitl [Hc0]; · iexact Hc0
      iexact Hv5
    iapply (host host_bufs3 rfl d (V2 m d) _)
    isplitl [Hb Hh]
    · isplitl [Hb] <;> iassumption
    iintro H
    iapply (host host_bufs4 rfl d _ _)
    isplitl [H]; · iexact H
    iintro H
    iapply (host host_bufs5 rfl d _ _)
    isplitl [H]; · iexact H
    iintro ⟨Hb, Hh⟩
    ihave Hh := (show (StableHlo.held (T d) Sall (op5.result (op4.result (op3.result (V2 m d)))) : sProp 𝕄) ⊢ _ from held_end m d) $$ Hh
    imodintro
    isplitl [HO Hst]
    · isplitl [HO]
      · icases HO with ⟨%W', HO⟩
        iexists W'
        isplitr
        · ipureintro; exact wbelow d W' _ (by decide)
        · iexact HO
      · iexact Hst
    isplitl [Hh]; · iexact Hh
    isplitl [Hb] <;> iassumption
  isplitl [Hb]; · iexact Hb
  isplitl [H3 Hu He Hg Hv4]
  · rw [pre_eq]
    isplitl [H3]; · iexact H3
    isplitl [Hu]; · iexact Hu
    isplitl [He]; · iexact He
    isplitl [Hg]; · iexact Hg
    iexact Hv4
  isplitl [Hprng]
  · iexists (ρ d); iexact Hprng
  isplitl [HO]
  · iexists W; iexact HO
  isplitr; · iexact Hlev
  iexact HG

/-! ## The run -/

def fq (d : Dev nD) (s' : Phys nD τ sig (Elt F)) : Prop :=
  s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3)
    ∧ s'.mem.mem ((d : Thread nD τ).loc main_v5) = V3 m d (Proc.devRef .tc main_v5)

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H5⟩, HSI⟩
  ihave H := (persistent_entails_right (SI_pointsTo_agree (st := s') (ℓ := (d : Thread nD τ).loc main_arg0) (I := Finset.univ) (q := fullShare)
    (f := m ((d : Thread nD τ).loc main_arg0)))) $$ [HSI H0]
  · isplitl [HSI] <;> iassumption
  icases H with ⟨%h0, HSI, -⟩
  ihave H := (persistent_entails_right (SI_pointsTo_agree (st := s') (ℓ := (d : Thread nD τ).loc main_arg1) (I := Finset.univ) (q := fullShare)
    (f := m ((d : Thread nD τ).loc main_arg1)))) $$ [HSI H1]
  · isplitl [HSI] <;> iassumption
  icases H with ⟨%h1, HSI, -⟩
  ihave H := (persistent_entails_right (SI_pointsTo_agree (st := s') (ℓ := (d : Thread nD τ).loc main_arg2) (I := Finset.univ) (q := fullShare)
    (f := m ((d : Thread nD τ).loc main_arg2)))) $$ [HSI H2]
  · isplitl [HSI] <;> iassumption
  icases H with ⟨%h2, HSI, -⟩
  ihave H := (persistent_entails_right (SI_pointsTo_agree (st := s') (ℓ := (d : Thread nD τ).loc main_arg3) (I := Finset.univ) (q := fullShare)
    (f := m ((d : Thread nD τ).loc main_arg3)))) $$ [HSI H3]
  · isplitl [HSI] <;> iassumption
  icases H with ⟨%h3, HSI, -⟩
  ihave H := (SI_pointsTo_agree (st := s') (ℓ := (d : Thread nD τ).loc main_v5) (I := Finset.univ) (q := fullShare)
    (f := V3 m d (Proc.devRef .tc main_v5))) $$ [HSI H5]
  · isplitl [HSI] <;> iassumption
  icases H with %h5
  ipureintro
  exact ⟨funext fun i => h0 i (Finset.mem_univ i), funext fun i => h1 i (Finset.mem_univ i), funext fun i => h2 i (Finset.mem_univ i),
    funext fun i => h3 i (Finset.mem_univ i), funext fun i => h5 i (Finset.mem_univ i)⟩

/-- The whole program's run: every argument kept, the result as computed, every semaphore at zero. -/
theorem run_main [∀ e, Nonempty (Elt F e)] :
    θ_run (Cert.HybridIdeal.defs (F := F)) (Cert.HybridIdeal.threads (F := F)) ⟨m, fun _ => 0, ρ⟩
      (fun r => (∀ d : Dev nD, r.2.mem ((d : Thread nD τ).loc main_arg0) = m ((d : Thread nD τ).loc main_arg0)
          ∧ r.2.mem ((d : Thread nD τ).loc main_arg1) = m ((d : Thread nD τ).loc main_arg1)
          ∧ r.2.mem ((d : Thread nD τ).loc main_arg2) = m ((d : Thread nD τ).loc main_arg2)
          ∧ r.2.mem ((d : Thread nD τ).loc main_arg3) = m ((d : Thread nD τ).loc main_arg3)
          ∧ r.2.mem ((d : Thread nD τ).loc main_v5) = V3 m d (Proc.devRef .tc main_v5)) ∧ r.2.sem = fun _ => 0) :=
  SparseCore.Cfg.θ_run_sc_quiescent (K := K (F := F)) (D := D (F := F)) (𝒱 := 𝒱) (EH := EH) (P := P m (pri m)) (A := ∅) facts v₀
    (fun q hq => match q with | 0 => nomatch hq)
    (fun q _ => match q with | 0 => tileObl m (pri m) facts)
    (fun q _ => match q with | 0 => SparseCore.Cfg.VecSplit.of_plain (vecSplit m (pri m)))
    m ρ main (fun d => G d) (FIN m) (u₀ (F := F)) (sep_elim_left.trans (hu₀ m (pri m))) (hmain m ρ) (fq m) (hfin m) _ (fun _ h hz => ⟨h, hz⟩)

end Cert.Proof.H

end
-- ==== Proof.H.Value.lean ====
/- What the two-core program's result holds, over the extended reals: at every place the sample `Cert.Mix.mix` of the
   prior's two words and the three arrays' elements there. The TensorCore call computes rows 0 to 79 (`tcOut_apply`), the
   SparseCore call rows 80 to 127 (`res_apply`), and the update joins them (`result`). -/
module

public import proofs.«01_k».proof.Proof.H.Main
public import proofs.«01_k».proof.Proof.K.Mix
public import Idealize.ShloMosaic.Lib.Pipeline.Value
public import Idealize.ShloMosaic.Lib.WordCmp

@[expose] public section

noncomputable section

namespace Cert.Proof.H

open Cert.HybridIdeal Cert.HybridIdeal.Gen Idealize.ShloMosaic Idealize.ShloMosaic.TcCoe Idealize.SL.Sem
open Cert.Mix

variable (m : (ℓ : Loc nD τ sig) → Buf (Elt Ideal) ℓ) (ρ : Dev nD → PrngReg)

/-! ## The TensorCore call -/

theorem hz : (![0, 0] : Fin 2 → Nat) = fun _ => 0 := funext fun a => by fin_cases a <;> rfl

/-- The body's payload at a place is the sample. -/
theorem pay1_apply (a b : EReal) (g e u : Vec Ideal S80x4096 .f32) (y : S80x4096.Idx) :
    k1_pay1 (F := Ideal) a a b g e u y = mix a b (u y) (e y) (g y) := by
  show min cTop (max c0 (if Ideal.cmp .oge (u y) (Ideal.div a (a + b)) = 1#1 then cMean + cStd * g y
    else Ideal.div (c0 - Ideal.log1p (c0 - e y)) c1)) = _
  rw [c0_sub, c0_sub]; rfl

/-- What the body leaves in the output's staging buffer, at a place. -/
theorem out1_apply (c : Dev nD) (i : grid1.Coords) (arg1 : Memref sig .tc .smem S2 .f32) (h1 : arg1.IsWhole)
    (arg2 : Memref sig .tc .vmem S80x4096 .f32) (h2 : arg2.IsWhole) (arg3 : Memref sig .tc .vmem S80x4096 .f32) (h3 : arg3.IsWhole)
    (arg4 : Memref sig .tc .vmem S80x4096 .f32) (h4 : arg4.IsWhole) (arg5 : Memref sig .tc .vmem S80x4096 .f32) (h5 : arg5.IsWhole)
    (x0 : Vec Ideal S2 .f32) (x1 x2 x3 : Vec Ideal S80x4096 .f32) (y : S80x4096.Idx) :
    Own.K1.out1_A_4 (Ix := SparseCore.Cfg.HIx 1) (U := UU) (Lvl := ℕ) 𝒱₀ c i arg1 h1 arg2 h2 arg3 h3 arg4 h4 arg5 h5 x0 x1 x2 x3 y
      = mix (x0 (word 0)) (x0 (word 1)) (x1 y) (x2 y) (x3 y) := by
  unfold Own.K1.out1_A_4
  rw [View.read_writes_junk_eq_canon]
  show View.canon ([⟨Rect.unit ![0, 0] S80x4096.size inb_S80x4096_S80x4096_0_0,
      k1_pay1
        (View.readAt (Elt Ideal) arg1.view (Rect.unit (s := S2) ![0] S1.size inb_S2_S1_0).toLoadRect (h1.unread x0) _)
        (View.readAt (Elt Ideal) arg1.view (Rect.unit (s := S2) ![0] S1.size inb_S2_S1_0).toLoadRect (h1.unread x0) _)
        (View.readAt (Elt Ideal) arg1.view (Rect.unit (s := S2) ![1] S1.size inb_S2_S1_1).toLoadRect (h1.unread x0) _)
        (View.readAt (Elt Ideal) arg4.view (Rect.unit ![0, 0] S80x4096.size inb_S80x4096_S80x4096_0_0).toLoadRect (h4.unread x3))
        (View.readAt (Elt Ideal) arg3.view (Rect.unit ![0, 0] S80x4096.size inb_S80x4096_S80x4096_0_0).toLoadRect (h3.unread x2))
        (View.readAt (Elt Ideal) arg2.view (Rect.unit ![0, 0] S80x4096.size inb_S80x4096_S80x4096_0_0).toLoadRect (h2.unread x1))⟩] :
      List (View.Piece (Elt Ideal) S80x4096 .f32)) y = _
  rw [View.canon_unit_zero hz]
  simp only [View.readAt_eq_ld, h1.read_unread, h2.read_unread, h3.read_unread, h4.read_unread]
  rw [View.ld_unit_zero (S := S80x4096) hz, View.ld_unit_zero (S := S80x4096) hz, View.ld_unit_zero (S := S80x4096) hz]
  rw [pay1_apply]
  congr 1 <;> exact congrArg x0 (funext fun a => by match a with | ⟨0, _⟩ => rfl)

/-- Which block each window is on at point `t`: the prior whole, the result at row block 0 and column block `t`. -/
theorem idx_facts : ∀ t : Fin cfg1.N, win1_0.index t (0 : Fin 1) = 0
    ∧ (win1_4.index t (0 : Fin 2) = 0 ∧ win1_4.index t (1 : Fin 2) = t.val) :=
  (by decide +kernel : ∀ t : Fin grid1.N, _)

/-- What point `t` writes back is block `t` of the whole-array function. -/
theorem point_eq (c : Dev nD) (t : Fin cfg1.N) (y : ((cfg1.win 4).xblock (cfg1.grid.coords t)).Idx) :
    Own.K1.outsAt1 (Ix := SparseCore.Cfg.HIx 1) (U := UU) (Lvl := ℕ) 𝒱₀ (Vm m 0) c t ((cfg1.win 4).xinj (cfg1.grid.coords t) y)
      = Mix.G (m ((c : Thread nD τ).loc main_arg3)) (m ((c : Thread nD τ).loc main_arg0)) (m ((c : Thread nD τ).loc main_arg1))
          (m ((c : Thread nD τ).loc main_arg2)) (((cfg1.win 4).blk t).view.emb y) := by
  obtain ⟨e0, -⟩ := idx_facts t
  unfold Own.K1.outsAt1
  rw [out1_apply]
  have w (k : Fin 2) : Own.K1.iblk (Vm m 0) c 0 t (word k) = m ((c : Thread nD τ).loc main_arg3) (word k) := by
    show m ((c : Thread nD τ).loc main_arg3) (((cfg1.win 0).blk t).view.emb (word k)) = _
    congr 1; funext a; apply Fin.ext
    match a with
    | ⟨0, _⟩ => show win1_0.index t (0 : Fin 1) * 2 + 1 * k.val = k.val; omega
  have h1 : Own.K1.X1_1 (Vm m 0) c t ((cfg1.win 4).xinj (cfg1.grid.coords t) y) = m ((c : Thread nD τ).loc main_arg0) (((cfg1.win 4).blk t).view.emb y) :=
    (cfg1.win 1).fill_xinj (cfg1.grid.coords t) _ (Own.K1.iblk (Vm m 0) c 1 t) y
  have h2 : Own.K1.X1_2 (Vm m 0) c t ((cfg1.win 4).xinj (cfg1.grid.coords t) y) = m ((c : Thread nD τ).loc main_arg1) (((cfg1.win 4).blk t).view.emb y) :=
    (cfg1.win 2).fill_xinj (cfg1.grid.coords t) _ (Own.K1.iblk (Vm m 0) c 2 t) y
  have h3 : Own.K1.X1_3 (Vm m 0) c t ((cfg1.win 4).xinj (cfg1.grid.coords t) y) = m ((c : Thread nD τ).loc main_arg2) (((cfg1.win 4).blk t).view.emb y) :=
    (cfg1.win 3).fill_xinj (cfg1.grid.coords t) _ (Own.K1.iblk (Vm m 0) c 3 t) y
  rw [w, w, h1, h2, h3]
  rfl

/-- Every place of the first 80 rows is in the block of the point that its column names. -/
theorem covered (i : S128x32768.Idx) (hi : (i 0).val < 80) : ∃ t : Fin cfg1.N, i ∈ ((cfg1.win 4).blk t).view.set := by
  have hi1 : (i 1 : Nat) < 32768 := (i 1).isLt
  have hN : cfg1.N = 8 := N_1
  let t : Fin cfg1.N := ⟨(i 1 : Nat) / 4096, by omega⟩
  refine ⟨t, ?_⟩
  obtain ⟨-, e40, e41⟩ := idx_facts t
  have ht : t.val = (i 1 : Nat) / 4096 := rfl
  have hx : ∀ t : Fin cfg1.N, ∀ a, (cfg1.win 4).xsize (cfg1.grid.coords t) a = (cfg1.win 4).size a := by decide +kernel
  show i ∈ ((View.whole main_v4).slice (win1_4.rect t)).set
  rw [View.set_slice_whole, Rect.mem_set_unit]
  intro a
  match a with
  | ⟨0, _⟩ =>
    have := hx t (0 : Fin 2)
    have : (cfg1.win 4).size (0 : Fin 2) = 80 := rfl
    show win1_4.index t (0 : Fin 2) * 80 ≤ (i 0 : Nat) ∧ (i 0 : Nat) < win1_4.index t (0 : Fin 2) * 80 + (cfg1.win 4).xsize (cfg1.grid.coords t) (0 : Fin 2); omega
  | ⟨1, _⟩ =>
    have := hx t (1 : Fin 2)
    have : (cfg1.win 4).size (1 : Fin 2) = 4096 := rfl
    show win1_4.index t (1 : Fin 2) * 4096 ≤ (i 1 : Nat) ∧ (i 1 : Nat) < win1_4.index t (1 : Fin 2) * 4096 + (cfg1.win 4).xsize (cfg1.grid.coords t) (1 : Fin 2); omega

/-- The call's proof data. -/
abbrev dat1 (d : Dev nD) : Pipeline.Dat τ (Elt Ideal) (SparseCore.Cfg.HIx 1) ℕ UU ℕ cfg1 d := Own.K1.dat 𝒱₀ (Vm m 0) (fun _ => 0) d

theorem tcOut_eq (d : Dev nD) : tcOut m d = (dat1 m d).arrAt 4 cfg1.N := rfl

theorem flushed_eq (d : Dev nD) (t : Fin cfg1.N) (y : ((cfg1.win 4).xblock (cfg1.grid.coords t)).Idx) :
    (dat1 m d).flushed 4 t y = Own.K1.outsAt1 (Ix := SparseCore.Cfg.HIx 1) (U := UU) (Lvl := ℕ) 𝒱₀ (Vm m 0) d t ((cfg1.win 4).xinj (cfg1.grid.coords t) y) := by
  show (cfg1.win 4).cut (cfg1.grid.coords t) ((dat1 m d).after 4 t) y = _
  rw [Own.K1.after1_4]

theorem tcOut_apply (d : Dev nD) (i : S128x32768.Idx) (hi : (i 0).val < 80) :
    tcOut m d i = Mix.G (m ((d : Thread nD τ).loc main_arg3)) (m ((d : Thread nD τ).loc main_arg0)) (m ((d : Thread nD τ).loc main_arg1))
          (m ((d : Thread nD τ).loc main_arg2)) i := by
  obtain ⟨t, ht⟩ := covered i hi
  rw [tcOut_eq]
  exact (dat1 m d).arrAt_forall_of_flushed 4 (fun i v => v = Mix.G (m ((d : Thread nD τ).loc main_arg3)) (m ((d : Thread nD τ).loc main_arg0))
    (m ((d : Thread nD τ).loc main_arg1)) (m ((d : Thread nD τ).loc main_arg2)) i)
    (fun t _ y => (cast_eq _ _).trans ((flushed_eq m d t y).trans (point_eq m d t y))) cfg1.N t i t.isLt (flush1_4 t) ht

/-! ## The SparseCore call -/

/-- Lane `x` of the prior the call takes is the prior's word `x mod 2`. -/
theorem pri_apply (d : Dev nD) (x : S16.Idx) :
    pri m d x = m ((d : Thread nD τ).loc main_arg3) (word ⟨(x 0).val % 2, Nat.mod_lt _ (by decide)⟩) := by
  have h : pri m d = shapeCast S16 (broadcastInDim S8x2 ![0, 1] bcast_S1x2_S8x2_0_1
      (shapeCast S1x2 (m ((d : Thread nD τ).loc main_arg3) : S2.Idx → EReal) shapeCasts_S2_S1x2)) shapeCasts_S8x2_S16 := by
    unfold pri V1
    rw [StableHlo.reshape_result', StableHlo.unary_result', StableHlo.reshape_result']
    rfl
  rw [h]
  have e : ∀ x : S16.Idx, (Shape.reshapeEquiv shapeCasts_S2_S1x2 fun a =>
      if h1 : S1x2.size a = 1 then (⟨0, by omega⟩ : Fin (S1x2.size a))
      else ⟨((Shape.reshapeEquiv shapeCasts_S8x2_S16 x) ((![0, 1] : Fin 2 → Fin 2) a)).val, by
        rcases bcast_S1x2_S8x2_0_1.2 a with h2 | h2
        · exact absurd h2 h1
        · rw [h2]; exact ((Shape.reshapeEquiv shapeCasts_S8x2_S16 x) ((![0, 1] : Fin 2 → Fin 2) a)).isLt⟩)
      = word ⟨(x 0).val % 2, Nat.mod_lt _ (by decide)⟩ := by decide +kernel
  exact congrArg (m ((d : Thread nD τ).loc main_arg3)) (e x)

/-- The lane's threshold as the body computes it: the lane's own word of two, over their sum, at an even lane; the other word at an odd one. -/
theorem pay2_apply (v w : Vec Ideal S16 .f32) : ∀ x : S16.Idx,
    k0_pay2 (F := Ideal) v w x = Ideal.div (if (x 0).val % 2 = 0 then v x else w x) (v x + w x) := by
  intro x
  obtain ⟨k, rfl⟩ : ∃ k : Fin 16, x = fun | 0 => k := ⟨x 0, funext fun a => by match a with | 0 => rfl⟩
  fin_cases k <;> rfl

/-- Every lane's threshold is the first component's probability. -/
theorem thr_apply (d : Dev nD) (x : S16.Idx) :
    thr (pri m d) x = prob0 (m ((d : Thread nD τ).loc main_arg3) (word 0)) (m ((d : Thread nD τ).loc main_arg3) (word 1)) := by
  unfold thr
  rw [pay2_apply, pri_apply, pri_apply]
  have hx : (x 0).val < 16 := (x 0).isLt
  unfold prob0
  rcases Nat.mod_two_eq_zero_or_one (x 0).val with h | h
  · have h' : (15 - (x 0).val) % 2 = 1 := by omega
    rw [if_pos h]
    exact congrArg₂ (fun a b => Ideal.div a (a + b)) (congrArg _ (congrArg word (Fin.ext h))) (congrArg _ (congrArg word (Fin.ext h')))
  · have h' : (15 - (x 0).val) % 2 = 0 := by omega
    rw [if_neg (by omega), add_comm]
    exact congrArg₂ (fun a b => Ideal.div a (a + b)) (congrArg _ (congrArg word (Fin.ext h'))) (congrArg _ (congrArg word (Fin.ext h)))

/-- One sample of the call. -/
theorem elem_apply (t e g u : EReal) :
    elem (F := Ideal) t e g u = min cTop (max c0 (if Ideal.cmp .oge u t = 1#1 then gauss g else expo e)) := by
  show min cTop (max c0 (if Ideal.cmp .oge u t = 1#1 then cMean + cStd * g
    else Ideal.div (c0 - Ideal.log (c1 - e)) c1)) = _
  rw [c0_sub, log_one_sub]; rfl

theorem res_apply (d : Dev nD) (i : S48x32768.Idx) :
    res m (pri m) d i = Mix.G (m ((d : Thread nD τ).loc main_arg3)) (m ((d : Thread nD τ).loc main_arg0)) (m ((d : Thread nD τ).loc main_arg1))
          (m ((d : Thread nD τ).loc main_arg2)) (up i) := by
  unfold res scOut
  rw [elem_apply, thr_apply]
  rfl

/-! ## The result -/

theorem V3_v5 (d : Dev nD) : V3 m d (Proc.devRef .tc main_v5)
    = Host.dynamicUpdateSlice (tcOut m d) (res m (pri m) d) ![80, 0] updateFits_S128x32768_S48x32768 := by
  unfold V3
  rw [StableHlo.binaryIndexed_result_read, StableHlo.nullary_result_ne (h := by decide), StableHlo.nullary_result_ne (h := by decide),
    StableHlo.nullary_result_ne (h := by decide), StableHlo.nullary_result_ne (h := by decide), V2_v3, V2_v4]
  have hc : (op4 (F := Ideal)).result ((op3 (F := Ideal)).result (V2 m d)) (Proc.devRef .tc main_c) = constantI S_ 32 80#32 := by
    rw [StableHlo.nullary_result_ne (h := by decide), StableHlo.nullary_result']
  have hc0 : (op4 (F := Ideal)).result ((op3 (F := Ideal)).result (V2 m d)) (Proc.devRef .tc main_c_0) = constantI S_ 32 0#32 := by
    rw [StableHlo.nullary_result']
  congr 1
  funext k
  match k with
  | ⟨0, _⟩ => exact congrArg (fun c : S_.Idx → BitVec 32 => (c (Shape.Idx.first h_S_)).toInt) hc
  | ⟨1, _⟩ => exact congrArg (fun c : S_.Idx → BitVec 32 => (c (Shape.Idx.first h_S_)).toInt) hc0

theorem result (d : Dev nD) : V3 m d (Proc.devRef .tc main_v5)
    = Mix.G (m ((d : Thread nD τ).loc main_arg3)) (m ((d : Thread nD τ).loc main_arg0)) (m ((d : Thread nD τ).loc main_arg1))
          (m ((d : Thread nD τ).loc main_arg2)) := by
  have hk : S128x32768.Slices ![80, 0] S48x32768 := by decide
  rw [V3_v5, WordCmp.dynamicUpdateSlice_eq_update _ _ _ _ ![80, 0] hk (fun a => by match a with | ⟨0, _⟩ => rfl | ⟨1, _⟩ => rfl)]
  funext i
  have h0 : (i 0).val < 128 := (i 0).isLt
  have h1 : (i 1).val < 32768 := (i 1).isLt
  unfold updateSlice
  split
  · rename_i hin
    rw [res_apply]
    have := (hin 0).1
    have e : (![80, 0] : Fin 2 → ℕ) 0 = 80 := rfl
    congr 1; funext a; apply Fin.ext
    match a with
    | ⟨0, _⟩ => show 80 + ((i 0).val - 80) = (i 0).val; omega
    | ⟨1, _⟩ => show (i 1).val - 0 = (i 1).val; omega
  · rename_i hin
    refine tcOut_apply m d i ?_
    by_contra hc
    refine hin fun a => ?_
    match a with
    | ⟨0, _⟩ => show 80 ≤ (i 0).val ∧ (i 0).val < 80 + 48; omega
    | ⟨1, _⟩ => show 0 ≤ (i 1).val ∧ (i 1).val < 0 + 32768; omega

end Cert.Proof.H

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Hybrid
public import proofs.«01_k».proof.Proof.Gen.Hybrid.Skeleton
public import proofs.«01_k».proof.Proof.Gen.Hybrid.Launch
public import proofs.«01_k».proof.Proof.Gen.Hybrid.Points
public import proofs.«01_k».proof.Proof.Gen.Own.Hybrid.Calls
public import proofs.«01_k».proof.Proof.Gen.HybridIdeal
public import proofs.«01_k».proof.Proof.Gen.HybridIdeal.Skeleton
public import proofs.«01_k».proof.Proof.Gen.HybridIdeal.Launch
public import proofs.«01_k».proof.Proof.Gen.HybridIdeal.Points
public import proofs.«01_k».proof.Proof.Gen.Own.HybridIdeal.Calls
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.K.Tc
public import proofs.«01_k».proof.Proof.K.Ref
public import proofs.«01_k».proof.Proof.H.Value
public import proofs.«01_k».proof.Proof.HB.Main
public import Idealize.ShloMosaic.Adequacy
public import Idealize.ShloMosaic.Init

@[expose] public section

noncomputable section

namespace Cert.Proof

open Idealize.ShloMosaic Idealize.SL.Sem Cert.Kernel

/-- The reference's frame: its run read at the arguments; it declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference's run, its result named. -/
theorem run_ri (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
      r.2.mem ((c.tc : Thread _ _).loc Cert.ReferenceIdeal.main_v17)
        = Mix.G (m ((c.tc : Thread _ _).loc Cert.ReferenceIdeal.main_arg3)) (m ((c.tc : Thread _ _).loc Cert.ReferenceIdeal.main_arg0))
          (m ((c.tc : Thread _ _).loc Cert.ReferenceIdeal.main_arg1)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)
      ∧ r.2.mem ((c.tc : Thread _ _).loc Cert.ReferenceIdeal.main_arg3) = m ((c.tc : Thread _ _).loc Cert.ReferenceIdeal.main_arg3) :=
  (θ_run Cert.ReferenceIdeal.defs _ _).mono
    (fun _ h c => ⟨((h c).1.trans (Cert.ReferenceIdeal.Read.val_main_v17_eq _ _ _ _)).trans (Ref.result _ _ _ _), (h c).2⟩)
    (Cert.ReferenceIdeal.Value.run (F := Ideal) m ρ)

/-- The TensorCore kernel and the reference end with the same result. -/
theorem alg_tc : Cert.algebraic_KernelIdeal_ReferenceIdeal := by
  intro m g m' g' _ hm
  refine ⟨_, Tc.run m g, (θ_run Cert.ReferenceIdeal.defs _ _).mono (fun _ h c => ⟨?_, (h c).2⟩) (run_ri m' g')⟩
  obtain ⟨h0, h1, h2, h3⟩ := hm c
  rw [(h c).1, h0, h1, h2, h3]

/-- The two-core program's frames. -/
theorem frame_h : Cert.quiescent_Hybrid := fun m ρ _ =>
  (θ_run Cert.Hybrid.defs _ _).mono (fun _ h => ⟨fun c => ⟨(h.1 c).1, (h.1 c).2.1, (h.1 c).2.2.1, (h.1 c).2.2.2.1⟩, h.2⟩)
    (HB.run_main (F := Bits) m ρ)

theorem frame_hi : Cert.quiescent_HybridIdeal := fun m ρ _ =>
  (θ_run Cert.HybridIdeal.defs _ _).mono (fun _ h => ⟨fun c => ⟨(h.1 c).1, (h.1 c).2.1, (h.1 c).2.2.1, (h.1 c).2.2.2.1⟩, h.2⟩)
    (H.run_main (F := Ideal) m ρ)

/-- The two-core program and the reference end with the same result. -/
theorem alg_h : Cert.algebraic_HybridIdeal_ReferenceIdeal := by
  intro m g m' g' _ hm
  refine ⟨_, (θ_run Cert.HybridIdeal.defs _ _).mono
      (fun _ h c => ⟨(h.1 c).2.2.2.2.trans (H.result m c), (h.1 c).1, (h.1 c).2.1, (h.1 c).2.2.1, (h.1 c).2.2.2.1⟩) (H.run_main (F := Ideal) m g),
    (θ_run Cert.ReferenceIdeal.defs _ _).mono (fun _ h c => ⟨?_, (h c).2⟩) (run_ri m' g')⟩
  obtain ⟨h0, h1, h2, h3⟩ := hm c
  rw [(h c).1, h0, h1, h2, h3]

theorem claim : Cert.Claim := ⟨Cert.Kernel.Gen.facts, Cert.KernelIdeal.Gen.facts, Cert.ReferenceIdeal.Gen.facts,
  Cert.Hybrid.Gen.facts, Cert.HybridIdeal.Gen.facts,
  fun m ρ _ => Cert.Kernel.Gen.frame m ρ, fun m ρ _ => Cert.KernelIdeal.Gen.frame m ρ, frame_ri, frame_h, frame_hi,
  trivial, alg_tc, trivial, alg_h⟩

end Cert.Proof

end
